-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x2048 : Shape := ⟨2, ![1024, 2048]⟩
abbrev S2048x16384 : Shape := ⟨2, ![2048, 16384]⟩
abbrev S2x1024x16384 : Shape := ⟨3, ![2, 1024, 16384]⟩
abbrev S2048x1024 : Shape := ⟨2, ![2048, 1024]⟩
abbrev S4x1024x1024 : Shape := ⟨3, ![4, 1024, 1024]⟩
abbrev S16 : Shape := ⟨1, ![16]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1024x32768 : Shape := ⟨2, ![1024, 32768]⟩
abbrev S2x64x16384 : Shape := ⟨3, ![2, 64, 16384]⟩
abbrev S64x32768 : Shape := ⟨2, ![64, 32768]⟩
abbrev S1x64x16384 : Shape := ⟨3, ![1, 64, 16384]⟩
abbrev S64x16384 : Shape := ⟨2, ![64, 16384]⟩
abbrev S64 : Shape := ⟨1, ![64]⟩
abbrev S64x1 : Shape := ⟨2, ![64, 1]⟩

abbrev nBuf : Space → Nat
  | .hbm => 4
  | .vmem => 8
  | .smem => 0
  | _ => 0

abbrev bufTy : (tb : Table) → Fin (tcTables nBuf tb) → BufTy
  | .hbm, ⟨0, _⟩ => ⟨S1024x2048, .bf16⟩
  | .hbm, ⟨1, _⟩ => ⟨S2048x16384, .bf16⟩
  | .hbm, ⟨2, _⟩ => ⟨S2x1024x16384, .bf16⟩
  | .hbm, ⟨3, _⟩ => ⟨S1024x32768, .f32⟩
  | .local _ .vmem, ⟨0, _⟩ => ⟨S1024x2048, .bf16⟩
  | .local _ .vmem, ⟨1, _⟩ => ⟨S2048x1024, .bf16⟩
  | .local _ .vmem, ⟨2, _⟩ => ⟨S2048x1024, .bf16⟩
  | .local _ .vmem, ⟨3, _⟩ => ⟨S4x1024x1024, .bf16⟩
  | .local _ .vmem, ⟨4, _⟩ => ⟨S2x64x16384, .bf16⟩
  | .local _ .vmem, ⟨5, _⟩ => ⟨S2x64x16384, .bf16⟩
  | .local _ .vmem, ⟨6, _⟩ => ⟨S64x32768, .f32⟩
  | .local _ .vmem, ⟨7, _⟩ => ⟨S64x32768, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem1_0 : DmaSem sig := 1
abbrev cc0_sem1_1 : DmaSem sig := 2
abbrev cc1_sem0_0 : DmaSem sig := 51
abbrev cc1_sem0_1 : DmaSem sig := 52
abbrev cc1_sem1_0 : DmaSem sig := 53
abbrev cc1_sem1_1 : DmaSem sig := 54

abbrev nD : Nat := 4
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c4_i32 : BitVec 32 := 4#32
  let v6 : BitVec 1 := Scalar.cmpi .sge arg0 c4_i32
  let v7 : BitVec 32 := Scalar.extui v6
  let c0_i32 : BitVec 32 := 0#32
  let v8 : BitVec 1 := Scalar.cmpi .ne v7 c0_i32
  v8

def k0_off1 (i : grid0.Coords) : Fin 1 → Nat :=
  let arg0 : BitVec 32 := BitVec.ofNat 32 (i 0).val
  let c4_i32_23 : BitVec 32 := 4#32
  let v47 : BitVec 32 := Scalar.subi arg0 c4_i32_23
  ![v47.toNat]
def k0_off2 (i : grid0.Coords) (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let arg0 : BitVec 32 := BitVec.ofNat 32 (i 0).val
  let c4_i32_22 : BitVec 32 := 4#32
  let v46 : BitVec 32 := Scalar.subi arg0 c4_i32_22
  let c1024_i32_25 : BitVec 32 := 1024#32
  let v49 : BitVec 32 := Scalar.muli v46 c1024_i32_25
  ![v2.toNat, 0, v49.toNat]
def k0_off3 (i : grid0.Coords) : Fin 3 → Nat :=
  let arg0 : BitVec 32 := BitVec.ofNat 32 (i 0).val
  let c4_i32_22 : BitVec 32 := 4#32
  let v46 : BitVec 32 := Scalar.subi arg0 c4_i32_22
  let c4_i32_24 : BitVec 32 := 4#32
  let v48 : BitVec 32 := Scalar.remsi v46 c4_i32_24
  let c0_i32_27 : BitVec 32 := 0#32
  let c0_i32_28 : BitVec 32 := 0#32
  ![v48.toNat, 0, 0]
def k0_off4 (i : grid0.Coords) : Fin 3 → Nat :=
  let arg0 : BitVec 32 := BitVec.ofNat 32 (i 0).val
  let c4_i32_5 : BitVec 32 := 4#32
  let v15 : BitVec 32 := Scalar.remsi arg0 c4_i32_5
  let v16 : Index := Scalar.indexCast v15
  let c0_6 : Index := 0#32
  let c0_7 : Index := 0#32
  ![v16.toNat, 0, 0]
def k0_off5 (i : grid0.Coords) : Fin 1 → Nat :=
  let arg0 : BitVec 32 := BitVec.ofNat 32 (i 0).val
  ![arg0.toNat]
def k0_off6 (i : grid0.Coords) (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_9 : BitVec 32 := 0#32
  let arg0 : BitVec 32 := BitVec.ofNat 32 (i 0).val
  let c1024_i32 : BitVec 32 := 1024#32
  let v21 : BitVec 32 := Scalar.muli arg0 c1024_i32
  ![v2.toNat, 0, v21.toNat]
def k0_off7 (i : grid0.Coords) : Fin 3 → Nat :=
  let arg0 : BitVec 32 := BitVec.ofNat 32 (i 0).val
  let c4_i32_8 : BitVec 32 := 4#32
  let v20 : BitVec 32 := Scalar.remsi arg0 c4_i32_8
  let c0_i32_10 : BitVec 32 := 0#32
  let c0_i32_11 : BitVec 32 := 0#32
  ![v20.toNat, 0, 0]
def k0_dev1 (d0 : Dev nD) : Nat :=
  let c0_i32_16 : BitVec 32 := 0#32
  let c1_i32_14 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v30 : BitVec 32 := Scalar.subi c1_i32_14 v2
  let c2_i32_15 : BitVec 32 := 2#32
  let v31 : BitVec 32 := Scalar.muli v30 c2_i32_15
  let v32 : BitVec 32 := Scalar.addi c0_i32_16 v31
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_17 : BitVec 32 := 1#32
  let v33 : BitVec 32 := Scalar.muli v5 c1_i32_17
  let v34 : BitVec 32 := Scalar.addi v32 v33
  v34.toNat
def k0_cond2 (i : grid0.Coords) : BitVec 1 :=
  let arg0 : BitVec 32 := BitVec.ofNat 32 (i 0).val
  let c15_i32 : BitVec 32 := 15#32
  let v43 : BitVec 1 := Scalar.cmpi .eq arg0 c15_i32
  let v44 : BitVec 32 := Scalar.extui v43
  let c0_i32_21 : BitVec 32 := 0#32
  let v45 : BitVec 1 := Scalar.cmpi .ne v44 c0_i32_21
  v45

def k0_off8 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_24 : BitVec 32 := 0#32
  let c12288_i32 : BitVec 32 := 12288#32
  ![v2.toNat, 0, 12288]
def k0_off9 (c12_i32 : BitVec 32) : Fin 3 → Nat :=
  let c4_i32_22 : BitVec 32 := 4#32
  let v46 : BitVec 32 := Scalar.remsi c12_i32 c4_i32_22
  let c0_i32_25 : BitVec 32 := 0#32
  let c0_i32_26 : BitVec 32 := 0#32
  ![v46.toNat, 0, 0]
def k0_off10 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_39 : BitVec 32 := 0#32
  let c13312_i32 : BitVec 32 := 13312#32
  ![v2.toNat, 0, 13312]
def k0_off11 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_54 : BitVec 32 := 0#32
  let c14336_i32 : BitVec 32 := 14336#32
  ![v2.toNat, 0, 14336]
def k0_off12 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_70 : BitVec 32 := 0#32
  let c15360_i32 : BitVec 32 := 15360#32
  ![v2.toNat, 0, 15360]
def k0_off13 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_91 : BitVec 32 := 0#32
  let c0_i32_92 : BitVec 32 := 0#32
  ![v2.toNat, 0, 0]
def k0_off14 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_103 : BitVec 32 := 0#32
  let c1024_i32_104 : BitVec 32 := 1024#32
  ![v2.toNat, 0, 1024]
def k0_off15 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_115 : BitVec 32 := 0#32
  let c2048_i32 : BitVec 32 := 2048#32
  ![v2.toNat, 0, 2048]
def k0_off16 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_125 : BitVec 32 := 0#32
  let c3072_i32 : BitVec 32 := 3072#32
  ![v2.toNat, 0, 3072]
def k0_off17 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_136 : BitVec 32 := 0#32
  let c4096_i32 : BitVec 32 := 4096#32
  ![v2.toNat, 0, 4096]
def k0_off18 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_146 : BitVec 32 := 0#32
  let c5120_i32 : BitVec 32 := 5120#32
  ![v2.toNat, 0, 5120]
def k0_off19 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_156 : BitVec 32 := 0#32
  let c6144_i32 : BitVec 32 := 6144#32
  ![v2.toNat, 0, 6144]
def k0_off20 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_166 : BitVec 32 := 0#32
  let c7168_i32 : BitVec 32 := 7168#32
  ![v2.toNat, 0, 7168]
def k0_off21 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_176 : BitVec 32 := 0#32
  let c8192_i32 : BitVec 32 := 8192#32
  ![v2.toNat, 0, 8192]
def k0_off22 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_186 : BitVec 32 := 0#32
  let c9216_i32 : BitVec 32 := 9216#32
  ![v2.toNat, 0, 9216]
def k0_off23 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_196 : BitVec 32 := 0#32
  let c10240_i32 : BitVec 32 := 10240#32
  ![v2.toNat, 0, 10240]
def k0_off24 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_206 : BitVec 32 := 0#32
  let c11264_i32 : BitVec 32 := 11264#32
  ![v2.toNat, 0, 11264]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2x64x16384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S1024x2048 : Shape := ⟨2, ![1024, 2048]⟩
abbrev S2048x32768 : Shape := ⟨2, ![2048, 32768]⟩
abbrev S1024x32768 : Shape := ⟨2, ![1024, 32768]⟩
abbrev S_ : Shape := ⟨0, ![]⟩
abbrev S1024 : Shape := ⟨1, ![1024]⟩
abbrev S1024x1 : Shape := ⟨2, ![1024, 1]⟩

abbrev nBuf : Space → Nat
  | .hbm => 16
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x32768, .bf16⟩
  | .hbm, ⟨2, _⟩ => ⟨S1024x2048, .f32⟩
  | .hbm, ⟨3, _⟩ => ⟨S2048x32768, .f32⟩
  | .hbm, ⟨4, _⟩ => ⟨S1024x32768, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x32768, .f32⟩
  | .hbm, ⟨9, _⟩ => ⟨S1024x32768, .f32⟩
  | .hbm, ⟨10, _⟩ => ⟨S1024x32768, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x32768, .f32⟩
  | .hbm, ⟨15, _⟩ => ⟨S1024x32768, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Views.lean ====
/- The pieces the exchange moves: the sixteen column chunks of each half of `main_v1`, the four slots of the staging
   scratch, the forty-eight semaphores of the kernel, and what each piece holds. -/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.ValueLayout

@[expose] public section

noncomputable section

namespace Cert.KernelIdeal.Run

open Idealize.ShloMosaic Idealize.ShloMosaic.TcCoe
open Idealize.SL Idealize.SL.Sem
open Cert.KernelIdeal.Gen
open Idealize.ShloMosaic.ValueIdx

variable {F : FTy → Type} [FloatOps F]

/-! ## Devices -/

/-- The partner of a device: the other row of the mesh, the same column. -/
def pr (c : Dev nD) : Dev nD := ⟨(c.val % 2 + 2) - 2 * (c.val / 2), by have : c.val < 4 := c.isLt; show _ < 4; omega⟩
theorem pr_pr (c : Dev nD) : pr (pr c) = c := by revert c; decide
theorem pr_ne (c : Dev nD) : pr c ≠ c := by revert c; decide
/-- Partnering is a permutation of the devices. -/
def swap : Dev nD ≃ Dev nD := ⟨pr, pr, pr_pr, pr_pr⟩

/-- The mesh row of a device: which half of the logits it computes. -/
def row (c : Dev nD) : Fin 2 := ⟨c.val / 2, by have : c.val < 4 := c.isLt; omega⟩
theorem row_pr (c : Dev nD) : row (pr c) = 1 - row c := by revert c; decide
theorem row_pr_ne (c : Dev nD) : row (pr c) ≠ row c := by revert c; decide

/-- The device whose logits device `c` holds in half `h`: row `h`, column of `c`. -/
def src (c : Dev nD) (h : Fin 2) : Dev nD := ⟨2 * h.val + c.val % 2, by have := h.isLt; show _ < 4; omega⟩
theorem src_row (c : Dev nD) : src c (row c) = c := by revert c; decide
theorem src_pr (c : Dev nD) (h : Fin 2) : src (pr c) h = src c h := by revert c h; decide
theorem src_pr_row (c : Dev nD) : src (pr c) (row c) = c := by revert c; decide

/-- The device the remote copy addresses is the partner. -/
theorem dev1_eq (c : Dev nD) : (⟨k0_dev1 c, k0_dev1_lt c⟩ : Dev nD) = pr c := Fin.ext (k0_dev1_eq c)

/-! ## Views -/

/-- A chunk of the result buffer, as the body slices and squeezes it. -/
abbrev outV (off : Fin 3 → ℕ) (inb : ∀ a, off a + S1x1024x1024.size a ≤ S2x1024x16384.size a) : Memref sig .tc .hbm S1024x1024 .bf16 :=
  ((Memref.whole main_v1).slice (Rect.unit (s := S2x1024x16384) off S1x1024x1024.size inb) (fun _ => rfl)).squeeze S1024x1024 squeezes_S1x1024x1024_S1024x1024
/-- A slot of the staging scratch, as the body slices and squeezes it. -/
abbrev slotV (off : Fin 3 → ℕ) (inb : ∀ a, off a + S1x1024x1024.size a ≤ S4x1024x1024.size a) : Memref sig .tc .vmem S1024x1024 .bf16 :=
  ((Memref.whole cc0_scratch0).slice (Rect.unit (s := S4x1024x1024) off S1x1024x1024.size inb) (fun _ => rfl)).squeeze S1024x1024 squeezes_S1x1024x1024_S1024x1024
/-- One semaphore of an array of sixteen, as the body slices and squeezes it. -/
abbrev semV (a : DmaSems sig S16) (off : Fin 1 → ℕ) (inb : ∀ a, off a + S1.size a ≤ S16.size a) : DmaSem sig :=
  ((a.slice (Rect.unit (s := S16) off S1.size inb)).squeeze S_ squeezes_S1_S_).sem

theorem chunk_inb (h : Fin 2) (j : Fin 16) : ∀ a, (![h.val, 0, 1024 * j.val] : Fin 3 → ℕ) a + S1x1024x1024.size a ≤ S2x1024x16384.size a := by
  revert h j; decide
theorem slot_inb (k : Fin 4) : ∀ a, (![k.val, 0, 0] : Fin 3 → ℕ) a + S1x1024x1024.size a ≤ S4x1024x1024.size a := by
  revert k; decide
theorem sem_inb (j : Fin 16) : ∀ a, (![j.val] : Fin 1 → ℕ) a + S1.size a ≤ S16.size a := by revert j; decide

/-- The indices of chunk `j` of half `h`. -/
def chunkSet (h : Fin 2) (j : Fin 16) : Finset S2x1024x16384.Idx := (Rect.unit (s := S2x1024x16384) ![h.val, 0, 1024 * j.val] S1x1024x1024.size (chunk_inb h j)).set
/-- The indices of slot `k`. -/
def slotSet (k : Fin 4) : Finset S4x1024x1024.Idx := (Rect.unit (s := S4x1024x1024) ![k.val, 0, 0] S1x1024x1024.size (slot_inb k)).set

theorem mem_chunkSet (h : Fin 2) (j : Fin 16) (i : S2x1024x16384.Idx) : i ∈ chunkSet h j ↔ (i 0).val = h.val ∧ (i 2).val / 1024 = j.val := by
  unfold chunkSet
  rw [Rect.mem_set_unit]
  have h1 : (i 1).val < 1024 := (i 1).isLt
  have e : (∀ a : Fin 3, (![h.val, 0, 1024 * j.val] : Fin 3 → ℕ) a ≤ (i a).val ∧ (i a).val < (![h.val, 0, 1024 * j.val] : Fin 3 → ℕ) a + (![1, 1024, 1024] : Fin 3 → ℕ) a)
      ↔ (i 0).val = h.val ∧ (i 2).val / 1024 = j.val := by
    rw [Fin.forall_fin_succ, Fin.forall_fin_succ, Fin.forall_fin_succ]
    show (h.val ≤ (i 0).val ∧ (i 0).val < h.val + 1) ∧ (0 ≤ (i 1).val ∧ (i 1).val < 0 + 1024) ∧ (1024 * j.val ≤ (i 2).val ∧ (i 2).val < 1024 * j.val + 1024) ∧ _ ↔ _
    simp only [IsEmpty.forall_iff, and_true]
    omega
  exact e
theorem mem_slotSet (k : Fin 4) (i : S4x1024x1024.Idx) : i ∈ slotSet k ↔ (i 0).val = k.val := by
  unfold slotSet
  rw [Rect.mem_set_unit]
  have h1 : (i 1).val < 1024 := (i 1).isLt
  have h2 : (i 2).val < 1024 := (i 2).isLt
  have e : (∀ a : Fin 3, (![k.val, 0, 0] : Fin 3 → ℕ) a ≤ (i a).val ∧ (i a).val < (![k.val, 0, 0] : Fin 3 → ℕ) a + (![1, 1024, 1024] : Fin 3 → ℕ) a)
      ↔ (i 0).val = k.val := by
    rw [Fin.forall_fin_succ, Fin.forall_fin_succ, Fin.forall_fin_succ]
    show (k.val ≤ (i 0).val ∧ (i 0).val < k.val + 1) ∧ (0 ≤ (i 1).val ∧ (i 1).val < 0 + 1024) ∧ (0 ≤ (i 2).val ∧ (i 2).val < 0 + 1024) ∧ _ ↔ _
    simp only [IsEmpty.forall_iff, and_true]
    omega
  exact e

theorem outV_set {off : Fin 3 → ℕ} (inb : ∀ a, off a + S1x1024x1024.size a ≤ S2x1024x16384.size a) (h : Fin 2) (j : Fin 16)
    (e : off = ![h.val, 0, 1024 * j.val]) : (outV off inb).view.set = chunkSet h j := by
  subst e
  exact (View.set_reshape _ _).trans (View.set_slice_whole _ _)
theorem slotV_set {off : Fin 3 → ℕ} (inb : ∀ a, off a + S1x1024x1024.size a ≤ S4x1024x1024.size a) (k : Fin 4)
    (e : off = ![k.val, 0, 0]) : (slotV off inb).view.set = slotSet k := by
  subst e
  exact (View.set_reshape _ _).trans (View.set_slice_whole _ _)

/-- Where a chunk's index `(r, q)` lies in the result buffer. -/
theorem outV_emb {off : Fin 3 → ℕ} (inb : ∀ a, off a + S1x1024x1024.size a ≤ S2x1024x16384.size a) (h : Fin 2) (j : Fin 16)
    (e : off = ![h.val, 0, 1024 * j.val]) (y : S1024x1024.Idx) :
    (outV off inb).view.emb y = ix3 (n0 := 2) (n1 := 1024) (n2 := 16384) h (y 0)
      ⟨1024 * j.val + (y 1).val, by have h1 : (y 1).val < 1024 := (y 1).isLt; have := j.isLt; omega⟩ := by
  subst e
  have ey : y = ix2 (n0 := 1024) (n1 := 1024) (y 0) (y 1) := by funext a; match a with | ⟨0, _⟩ => rfl | ⟨1, _⟩ => rfl
  have hr : Shape.reshapeEquiv (s := S1x1024x1024) (s' := S1024x1024) squeezes_S1x1024x1024_S1024x1024.numel_eq y
      = ix3 (n0 := 1) (n1 := 1024) (n2 := 1024) (⟨0, Nat.one_pos⟩ : Fin 1) (y 0) (y 1) := by
    conv_lhs => rw [ey]
    exact reshapeEquiv_ix2_1ab _ _ _
  show (Rect.unit (s := S2x1024x16384) ![h.val, 0, 1024 * j.val] S1x1024x1024.size inb).emb (Shape.reshapeEquiv (s := S1x1024x1024) (s' := S1024x1024) squeezes_S1x1024x1024_S1024x1024.numel_eq y) = _
  rw [hr]
  funext a
  match a with
  | ⟨0, _⟩ => exact Fin.ext (by show h.val + 1 * 0 = h.val; omega)
  | ⟨1, _⟩ => exact Fin.ext (by show 0 + 1 * (y 0).val = (y 0).val; omega)
  | ⟨2, _⟩ => exact Fin.ext (by show 1024 * j.val + 1 * (y 1).val = 1024 * j.val + (y 1).val; omega)

/-- Where a slot's index `(r, q)` lies in the scratch. -/
theorem slotV_emb {off : Fin 3 → ℕ} (inb : ∀ a, off a + S1x1024x1024.size a ≤ S4x1024x1024.size a) (k : Fin 4)
    (e : off = ![k.val, 0, 0]) (y : S1024x1024.Idx) :
    (slotV off inb).view.emb y = ix3 (n0 := 4) (n1 := 1024) (n2 := 1024) k (y 0) (y 1) := by
  subst e
  have ey : y = ix2 (n0 := 1024) (n1 := 1024) (y 0) (y 1) := by funext a; match a with | ⟨0, _⟩ => rfl | ⟨1, _⟩ => rfl
  have hr : Shape.reshapeEquiv (s := S1x1024x1024) (s' := S1024x1024) squeezes_S1x1024x1024_S1024x1024.numel_eq y
      = ix3 (n0 := 1) (n1 := 1024) (n2 := 1024) (⟨0, Nat.one_pos⟩ : Fin 1) (y 0) (y 1) := by
    conv_lhs => rw [ey]
    exact reshapeEquiv_ix2_1ab _ _ _
  show (Rect.unit (s := S4x1024x1024) ![k.val, 0, 0] S1x1024x1024.size inb).emb (Shape.reshapeEquiv (s := S1x1024x1024) (s' := S1024x1024) squeezes_S1x1024x1024_S1024x1024.numel_eq y) = _
  rw [hr]
  funext a
  match a with
  | ⟨0, _⟩ => exact Fin.ext (by show k.val + 1 * 0 = k.val; omega)
  | ⟨1, _⟩ => exact Fin.ext (by show 0 + 1 * (y 0).val = (y 0).val; omega)
  | ⟨2, _⟩ => exact Fin.ext (by show 0 + 1 * (y 1).val = (y 1).val; omega)

/-! ## Semaphores -/

/-- The semaphore of the local copy of chunk `j`. -/
def copyS (j : Fin 16) : DmaSem sig := ⟨3 + j.val, by have := j.isLt; show _ < 55; omega⟩
/-- The semaphore at which the remote copy of chunk `j` returns its source. -/
def sendS (j : Fin 16) : DmaSem sig := ⟨19 + j.val, by have := j.isLt; show _ < 55; omega⟩
/-- The semaphore at which the partner's chunk `j` arrives. -/
def recvS (j : Fin 16) : DmaSem sig := ⟨35 + j.val, by have := j.isLt; show _ < 55; omega⟩

theorem semV_val (base : ℕ) (h : base + S16.numel ≤ 55) {off : Fin 1 → ℕ} (inb : ∀ a, off a + S1.size a ≤ S16.size a) (j : Fin 16) (e : off = ![j.val]) :
    (semV (SemArray.consecutive base S16 h) off inb).val = base + j.val := by
  subst e
  show base + (S16.rowMajor ((Rect.unit (s := S16) ![j.val] S1.size inb).emb (Shape.reshapeEquiv squeezes_S1_S_.numel_eq (fun i => i.elim0)))).val = _
  congr 1
  revert j
  decide
theorem copy_sem {off : Fin 1 → ℕ} (inb : ∀ a, off a + S1.size a ≤ S16.size a) (j : Fin 16) (e : off = ![j.val]) :
    semV cc0_scratch1 off inb = copyS j := Fin.ext (semV_val 3 _ inb j e)
theorem send_sem {off : Fin 1 → ℕ} (inb : ∀ a, off a + S1.size a ≤ S16.size a) (j : Fin 16) (e : off = ![j.val]) :
    semV cc0_scratch2 off inb = sendS j := Fin.ext (semV_val 19 _ inb j e)
theorem recv_sem {off : Fin 1 → ℕ} (inb : ∀ a, off a + S1.size a ≤ S16.size a) (j : Fin 16) (e : off = ![j.val]) :
    semV cc0_scratch3 off inb = recvS j := Fin.ext (semV_val 35 _ inb j e)

/-- What one chunk's copy credits. -/
def N : ℕ := (outV ![0, 0, 0] (chunk_inb 0 0)).view.dmaCredit
theorem N_pos : 0 < N := View.dmaCredit_pos _ (by decide)
theorem outV_credit {off : Fin 3 → ℕ} (inb : ∀ a, off a + S1x1024x1024.size a ≤ S2x1024x16384.size a) : (outV off inb).view.dmaCredit = N := rfl
theorem slotV_credit {off : Fin 3 → ℕ} (inb : ∀ a, off a + S1x1024x1024.size a ≤ S4x1024x1024.size a) : (slotV off inb).view.dmaCredit = N := rfl

/-! ## The grid -/

/-- Point `j` of the first call's grid. -/
def pt0 (j : Fin 16) : Fin cfg0.N := ⟨j.val, by have := j.isLt; show _ < grid0.N; rw [N_0]; omega⟩
theorem coords0 (t : Fin cfg0.N) : ((grid0.coords t) 0).val = t.val := by revert t; decide
/-- The chunk a grid point computes. -/
def ch (t : Fin cfg0.N) : Fin 16 := ⟨t.val, by have := t.isLt; have h : cfg0.N = 16 := N_0; omega⟩
theorem pt0_ch (t : Fin cfg0.N) : pt0 (ch t) = t := rfl
theorem ch_pt0 (j : Fin 16) : ch (pt0 j) = j := rfl

theorem cond1_iff : ∀ t : Fin cfg0.N, k0_cond1 (grid0.coords t) = 1#1 ↔ 4 ≤ t.val := by decide
theorem cond2_iff : ∀ t : Fin cfg0.N, k0_cond2 (grid0.coords t) = 1#1 ↔ t.val = 15 := by decide
theorem off1_eq : ∀ t : Fin cfg0.N, 4 ≤ t.val → k0_off1 (grid0.coords t) = ![t.val - 4] := by decide
theorem off2_eq : ∀ (t : Fin cfg0.N) (c : Dev nD), 4 ≤ t.val → k0_off2 (grid0.coords t) c = ![(row c).val, 0, 1024 * (t.val - 4)] := by decide
theorem off3_eq : ∀ t : Fin cfg0.N, 4 ≤ t.val → k0_off3 (grid0.coords t) = ![(t.val - 4) % 4, 0, 0] := by decide

end Cert.KernelIdeal.Run

end
-- ==== Proof.Protocol.lean ====
/- The exchange between a device and its partner, as a schedule of duties.

   Device `c` computes half `row c` of the logits, sixteen column chunks of it, one per grid point. Chunk `j` is copied from a slot of
   the staging scratch into the device's own result buffer and into the partner's. Three semaphores go with a chunk:
     copy `j`: credited by the local copy; gives back the chunk of the own buffer, written, and half the share of the slot;
     send `j`: credited by the remote copy at its source; gives back the other half of the slot's share;
     recv `j`: credited by the PARTNER's remote copy; gives the partner's chunk of the own buffer, written.
   Each is credited once and waited for once. The receive semaphores take part from the start of the program, since the partner's
   copies may arrive before the device has begun. -/
module

public import proofs.«01_k».proof.Proof.Views
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen
open Idealize.ShloMosaic.ValueIdx

variable {F : FTy → Type} [FloatOps F]

/-! ## The resource algebra: the pipelines' cells and the exchange's -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

abbrev 𝒱₀ : Variants := Variants.none

variable (m : (ℓ : Loc nD τ sig) → Buf (Elt F) ℓ)

/-! ## Contents -/

/-- The block of the activations grid point `t` reads. -/
def xblk (c : Dev nD) (t : Fin cfg0.N) : ((cfg0.win 0).xblock (cfg0.grid.coords t)).Idx → Elt F (cfg0.win 0).elt :=
  ((cfg0.win 0).blk t).view.read (Elt F) (m ((c : Thread nD τ).loc main_arg0))
/-- The block of the weights grid point `t` reads. -/
def wblk (c : Dev nD) (t : Fin cfg0.N) : ((cfg0.win 1).xblock (cfg0.grid.coords t)).Idx → Elt F (cfg0.win 1).elt :=
  ((cfg0.win 1).blk t).view.read (Elt F) (m ((c : Thread nD τ).loc main_arg1))
/-- The chunk of logits device `c` computes at point `t`. -/
def part (c : Dev nD) (t : Fin cfg0.N) : FVec F S1x1024x1024 .bf16 := k0_pay1 (xblk m c t) (wblk m c t)

/-- The result buffer of device `c`'s pair once both halves are in place. -/
def G (c : Dev nD) : Buf (Elt F) ((c : Thread nD τ).loc main_v1) := fun i =>
  part m (src c (i 0)) (pt0 ⟨(i 2).val / 1024, by have h : (i 2).val < 16384 := (i 2).isLt; omega⟩)
    (ix3 (n0 := 1) (n1 := 1024) (n2 := 1024) 0 (i 1) ⟨(i 2).val % 1024, Nat.mod_lt _ (by decide)⟩)
/-- The scratch as chunk `j` fills its slot. -/
def S (c : Dev nD) (j : Fin 16) : Buf (Elt F) ((c : Thread nD τ).loc cc0_scratch0) := fun i =>
  part m c (pt0 j) (ix3 (n0 := 1) (n1 := 1024) (n2 := 1024) 0 (i 1) (i 2))

/-- The slot chunk `j` goes through. -/
def slot (j : Fin 16) : Fin 4 := ⟨j.val % 4, Nat.mod_lt _ (by decide)⟩

/-- A slot copied into a chunk of the half `h`, on any device whose half `h` comes from `c`, is that device's `G` there. -/
theorem landed (c c' : Dev nD) (j : Fin 16) {off off' : Fin 3 → ℕ} (inb : ∀ a, off a + S1x1024x1024.size a ≤ S2x1024x16384.size a)
    (inb' : ∀ a, off' a + S1x1024x1024.size a ≤ S4x1024x1024.size a) (e : off = ![(row c).val, 0, 1024 * j.val])
    (e' : off' = ![(slot j).val, 0, 0]) (hc : src c' (row c) = c) (fd : Buf (Elt F) ((c' : Thread nD τ).loc main_v1)) :
    ∀ i ∈ chunkSet (row c) j, (outV off inb).view.write (Elt F) fd ((slotV off' inb').view.read (Elt F) (S m c j)) Finset.univ i = G m c' i := by
  intro i hi
  rw [← outV_set inb (row c) j e] at hi
  obtain ⟨y, -, rfl⟩ := Finset.mem_map.mp hi
  refine (View.write_emb_of_mem (v := (outV off inb).view) fd _ (Finset.mem_univ y)).trans ?_
  rw [outV_emb inb (row c) j e]
  refine (congrArg (S m c j) (slotV_emb inb' (slot j) e' y)).trans ?_
  have h1 : (y 1).val < 1024 := (y 1).isLt
  have ht : (⟨(1024 * j.val + (y 1).val) / 1024, by have := j.isLt; omega⟩ : Fin 16) = j := Fin.ext (by show (1024 * j.val + (y 1).val) / 1024 = j.val; omega)
  have hq : (⟨(1024 * j.val + (y 1).val) % 1024, Nat.mod_lt _ (by decide)⟩ : Fin 1024) = y 1 := Fin.ext (by show (1024 * j.val + (y 1).val) % 1024 = (y 1).val; omega)
  show part m c (pt0 j) (ix3 (n0 := 1) (n1 := 1024) (n2 := 1024) 0 (y 0) (y 1))
    = part m (src c' (row c)) (pt0 ⟨(1024 * j.val + (y 1).val) / 1024, _⟩)
      (ix3 (n0 := 1) (n1 := 1024) (n2 := 1024) 0 (y 0) ⟨(1024 * j.val + (y 1).val) % 1024, _⟩)
  rw [hc, ht, hq]

/-- A chunk of logits stored through a slot's rectangle is the scratch as that chunk fills it. -/
theorem stored (c : Dev nD) (j : Fin 16) {off : Fin 3 → ℕ} (inb : ∀ a, off a + S1x1024x1024.size a ≤ S4x1024x1024.size a)
    (e : off = ![(slot j).val, 0, 0]) (f : Buf (Elt F) ((c : Thread nD τ).loc cc0_scratch0)) :
    ∀ i ∈ slotSet (slot j), ((Memref.whole cc0_scratch0).access (Rect.unit (s := S4x1024x1024) off S1x1024x1024.size inb)).write (Elt F) f
      (part m c (pt0 j)) Finset.univ i = S m c j i := by
  intro i hi
  subst e
  have hi' : i ∈ ((Memref.whole cc0_scratch0).access (Rect.unit (s := S4x1024x1024) ![(slot j).val, 0, 0] S1x1024x1024.size inb)).set := by
    rw [View.set_slice_whole]; exact hi
  obtain ⟨y, -, rfl⟩ := Finset.mem_map.mp hi'
  refine (View.write_emb_of_mem (v := (Memref.whole cc0_scratch0).access (Rect.unit (s := S4x1024x1024) ![(slot j).val, 0, 0] S1x1024x1024.size inb))
    f _ (Finset.mem_univ y)).trans ?_
  show part m c (pt0 j) y = part m c (pt0 j) _
  congr 1
  have h0 : (y 0).val < 1 := (y 0).isLt
  funext a
  match a with
  | ⟨0, _⟩ => exact Fin.ext (by show (y 0).val = 0; omega)
  | ⟨1, _⟩ => exact Fin.ext (by show (y 1).val = 0 + 1 * (y 1).val; omega)
  | ⟨2, _⟩ => exact Fin.ext (by show (y 2).val = 0 + 1 * (y 2).val; omega)

/-! ## Cells and points-tos -/

abbrev copyC (c : Dev nD) (j : Fin 16) : GSem nD τ sig := ((c : Thread nD τ), .dma (copyS j))
abbrev sendC (c : Dev nD) (j : Fin 16) : GSem nD τ sig := ((c : Thread nD τ), .dma (sendS j))
abbrev recvC (c : Dev nD) (j : Fin 16) : GSem nD τ sig := ((c : Thread nD τ), .dma (recvS j))

/-- Chunk `j` of half `h` of device `c`'s result buffer, at contents `f`. -/
abbrev chunk (c : Dev nD) (h : Fin 2) (j : Fin 16) (f : Buf (Elt F) ((c : Thread nD τ).loc main_v1)) : sProp 𝕄 :=
  ((c : Thread nD τ).loc main_v1) ↦[chunkSet h j]{fullShare} f
/-- Slot `k` of device `c`'s scratch, at share `q` and contents `f`. -/
abbrev slotP (c : Dev nD) (k : Fin 4) (q : PosShare TreeShare) (f : Buf (Elt F) ((c : Thread nD τ).loc cc0_scratch0)) : sProp 𝕄 :=
  ((c : Thread nD τ).loc cc0_scratch0) ↦[slotSet k]{q} f

/-! ## The schedule -/

def copyPay (c : Dev nD) (j : Fin 16) : sProp 𝕄 := iprop(chunk c (row c) j (G m c) ∗ slotP c (slot j) fullShare.left (S m c j))
def sendPay (c : Dev nD) (j : Fin 16) : sProp 𝕄 := slotP c (slot j) fullShare.right (S m c j)
def recvPay (c : Dev nD) (j : Fin 16) : sProp 𝕄 := chunk c (row (pr c)) j (G m c)

/-- Chunk number of a semaphore, counted from `b`. -/
def num (n b : ℕ) : Fin 16 := ⟨(n - b) % 16, Nat.mod_lt _ (by decide)⟩

/-- The number of a DMA semaphore. -/
def semNo : SemLoc sig → ℕ
  | .dma s => s.val
  | .reg _ => 0

/-- The exchange's semaphores: copy, send and receive. -/
abbrev Own (g : GSem nD τ sig) : Prop := g.1.2 = .tc ∧ 3 ≤ semNo g.2 ∧ semNo g.2 < 51

/-- One duty on every cell of the exchange, in round 0. -/
def rd : Rounds.Schedule (GSem nD τ sig) Unit 𝕄 where
  duties g r := if r = 0 ∧ Own g then {()} else ∅
  unitless _ := False
  amount _ _ _ := N
  payload g _ _ := if semNo g.2 < 19 then copyPay m g.1.1 (num (semNo g.2) 3)
    else if semNo g.2 < 35 then sendPay m g.1.1 (num (semNo g.2) 19)
    else recvPay m g.1.1 (num (semNo g.2) 35)
  amount_pos _ _ _ _ := N_pos

instance rd_payload_storable (g : GSem nD τ sig) (r : ℕ) (d : Unit) :
    BI.Storable (upEmb : UEmb _ 𝕄) ((rd (F := F) m).payload g r d) := by
  show BI.Storable upEmb (if semNo g.2 < 19 then copyPay m g.1.1 (num (semNo g.2) 3)
    else if semNo g.2 < 35 then sendPay m g.1.1 (num (semNo g.2) 19)
    else recvPay m g.1.1 (num (semNo g.2) 35))
  unfold copyPay sendPay recvPay
  (repeat' split) <;> infer_instance

section Sched

variable (c : Dev nD) (j : Fin 16)

theorem num_add (b : ℕ) : num (b + j.val) b = j := Fin.ext (by have := j.isLt; show (b + j.val - b) % 16 = j.val; omega)

theorem own_copy : Own (copyC c j) := ⟨rfl, by have := j.isLt; show 3 ≤ 3 + j.val ∧ 3 + j.val < 51; omega⟩
theorem own_send : Own (sendC c j) := ⟨rfl, by have := j.isLt; show 3 ≤ 19 + j.val ∧ 19 + j.val < 51; omega⟩
theorem own_recv : Own (recvC c j) := ⟨rfl, by have := j.isLt; show 3 ≤ 35 + j.val ∧ 35 + j.val < 51; omega⟩

theorem duties_own {g : GSem nD τ sig} (h : Own g) : (rd (F := F) m).duties g 0 = {()} := by dsimp only [rd]; exact if_pos ⟨rfl, h⟩
theorem duties_later (g : GSem nD τ sig) : ∀ r, 1 ≤ r → (rd (F := F) m).duties g r = ∅ :=
  fun r hr => by dsimp only [rd]; rw [if_neg (fun h => by omega)]
theorem amount_eq (g : GSem nD τ sig) (r : ℕ) (u : Unit) : (rd (F := F) m).amount g r u = N := rfl
theorem expect_own {g : GSem nD τ sig} (h : Own g) : (rd (F := F) m).expect g 0 = N := by
  unfold Schedule.expect Schedule.amountOf; rw [duties_own m h, Finset.sum_singleton, amount_eq]

theorem payload_copy (u : Unit) : (rd (F := F) m).payload (copyC c j) 0 u = copyPay m c j := by
  show (if 3 + j.val < 19 then copyPay m c (num (3 + j.val) 3) else _) = _
  rw [if_pos (by have := j.isLt; omega), num_add]
theorem payload_send (u : Unit) : (rd (F := F) m).payload (sendC c j) 0 u = sendPay m c j := by
  show (if 19 + j.val < 19 then _ else if 19 + j.val < 35 then sendPay m c (num (19 + j.val) 19) else _) = _
  rw [if_neg (by omega), if_pos (by have := j.isLt; omega), num_add]
theorem payload_recv (u : Unit) : (rd (F := F) m).payload (recvC c j) 0 u = recvPay m c j := by
  show (if 35 + j.val < 19 then _ else if 35 + j.val < 35 then _ else recvPay m c (num (35 + j.val) 35)) = _
  rw [if_neg (by omega), if_neg (by omega), num_add]

theorem rest_copy : bigSep ((rd (F := F) m).duties (copyC c j) 0 \ ∅) (fun u => (rd (F := F) m).payload (copyC c j) 0 u) = copyPay m c j := by
  rw [Finset.sdiff_empty, duties_own m (own_copy c j), bigSep_singleton, payload_copy]
theorem rest_send : bigSep ((rd (F := F) m).duties (sendC c j) 0 \ ∅) (fun u => (rd (F := F) m).payload (sendC c j) 0 u) = sendPay m c j := by
  rw [Finset.sdiff_empty, duties_own m (own_send c j), bigSep_singleton, payload_send]
theorem rest_recv : bigSep ((rd (F := F) m).duties (recvC c j) 0 \ ∅) (fun u => (rd (F := F) m).payload (recvC c j) 0 u) = recvPay m c j := by
  rw [Finset.sdiff_empty, duties_own m (own_recv c j), bigSep_singleton, payload_recv]

end Sched

/-! ## What each device owes; the levels -/

/-- What device `c` owes once `t` chunks are sent: the partner's receive credits of the chunks to come. -/
def dues (c : Dev nD) (t : ℕ) : CellTallies nD τ sig Unit := ∑ j : Fin 16 with t ≤ j.val, tallyAt (recvC (pr c) j) () N

theorem dues_step (c : Dev nD) (j : Fin 16) : dues c j.val = dues c (j.val + 1) + tallyAt (recvC (pr c) j) () N := by
  unfold dues
  have h : (Finset.univ.filter fun i : Fin 16 => j.val ≤ i.val) = insert j (Finset.univ.filter fun i : Fin 16 => j.val + 1 ≤ i.val) := by
    ext i; simp only [Finset.mem_filter, Finset.mem_univ, true_and, Finset.mem_insert, Fin.ext_iff]; omega
  rw [h, Finset.sum_insert (by simp), add_comm]
theorem dues_end (c : Dev nD) (t : ℕ) (ht : 16 ≤ t) : dues c t = 0 := by
  unfold dues
  rw [Finset.filter_false_of_mem (fun i _ => by have := i.isLt; omega), Finset.sum_empty]

def L (g : GSem nD τ sig) : Finset Unit := if g.1.2 = .tc then {()} else ∅
/-- Receive cells at 1, every other cell at 0. -/
def lv (g : GSem nD τ sig) (_ : Unit) : ℕ := if 35 ≤ semNo g.2 ∧ semNo g.2 < 51 then 1 else 0

theorem L_of_ne (g : GSem nD τ sig) (h : g.1.2 ≠ .tc) : L g = ∅ := if_neg h
theorem L_tc (c : Dev nD) (sm : SemLoc sig) : L ((c : Thread nD τ), sm) = {()} := if_pos rfl

theorem dues_pos (c : Dev nD) (t : ℕ) (g : GSem nD τ sig) (u : Unit) (h : 0 < dues c t g u) : ∃ j : Fin 16, g = recvC (pr c) j := by
  unfold dues at h
  rw [Finset.sum_apply, Finsupp.finset_sum_apply] at h
  obtain ⟨j, -, hj⟩ := Finset.exists_ne_zero_of_sum_ne_zero (Nat.pos_iff_ne_zero.mp h)
  refine ⟨j, ?_⟩
  rw [tallyAt_apply] at hj
  by_contra hne
  exact hj (if_neg fun h => hne h.1)

/-- A wait at any cell of level 0 may be made while owing receive credits. -/
theorem mayWait (c : Dev nD) (sm : SemLoc sig) (t : ℕ) (h : semNo sm < 35 ∨ 51 ≤ semNo sm) :
    (levAts L lv : sProp 𝕄) ⊢ MayWait (c : Thread nD τ) sm () (dues c t) :=
  MayOwe.of_cut (L := L) (lev := lv) 0 (fun p hp => by rw [Finset.mem_singleton.mp hp, L_tc]; exact Finset.mem_singleton_self _)
    (fun g u hg => by obtain ⟨j, rfl⟩ := dues_pos c t g u hg; rw [L_tc]; exact Finset.mem_singleton_self _)
    (fun p hp => by
      rw [Finset.mem_singleton.mp hp]; dsimp only [lv]; rw [if_neg (by omega)])
    (fun g u hg => by
      obtain ⟨j, rfl⟩ := dues_pos c t g u hg
      dsimp only [lv]
      rw [if_pos (by have := j.isLt; show 35 ≤ 35 + j.val ∧ 35 + j.val < 51; omega)]; exact Nat.one_pos)

end Cert.KernelIdeal.Run

end
-- ==== Proof.State.lean ====
/- What a device holds between two steps of the first call: the chunks still to send, those in flight, those finished, the free
   slots of the scratch, the partner's chunks still to arrive and those arrived. -/
module

public import proofs.«01_k».proof.Proof.Protocol

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-- A group with one more member. -/
theorem bigSep_ins {ι : Type} [DecidableEq ι] {i : ι} {A : Finset ι} (h : i ∉ A) {Φ : ι → sProp 𝕄} :
    bigSep (insert i A) Φ = iprop(Φ i ∗ bigSep A Φ) := bigSep_insert h
/-- One member of a group. -/
theorem bigSep_out {ι : Type} [DecidableEq ι] {i : ι} {A : Finset ι} (h : i ∈ A) {Φ : ι → sProp 𝕄} : bigSep A Φ ⊢ Φ i := bigSep_elim h

/-! ## The cells of the exchange -/

/-- The exchange's semaphores on one device, listed. -/
abbrev osem0 : Fin (3 * 16) → SemLoc sig := fun k => .dma ⟨3 + k.val, by have h : k.val < 48 := k.isLt; show _ < 55; omega⟩

theorem osem0_inj : Function.Injective osem0 := by
  intro a b h
  have h' : (⟨3 + a.val, by have h : a.val < 48 := a.isLt; show _ < 55; omega⟩ : DmaSem sig) = ⟨3 + b.val, by have h : b.val < 48 := b.isLt; show _ < 55; omega⟩ := by injection h
  have := Fin.mk.inj h'
  exact Fin.ext (by omega)

/-- The cells of the exchange, on every device. -/
def cellE : (Dev nD × Fin (3 * 16)) ↪ GSem nD τ sig :=
  ⟨fun x => ((x.1 : Thread nD τ), osem0 x.2), fun x y h => by
    obtain ⟨a, k⟩ := x
    obtain ⟨b, l⟩ := y
    have h1 : ((a : Dev nD) : Thread nD τ) = (b : Thread nD τ) := congrArg Prod.fst h
    have h2 : osem0 k = osem0 l := congrArg Prod.snd h
    have h3 : a = b := congrArg Prod.fst h1
    rw [h3, osem0_inj h2]⟩
def ownCells : Finset (GSem nD τ sig) := Finset.univ.map cellE

theorem mem_ownCells {g : GSem nD τ sig} (h : Own g) : g ∈ ownCells := by
  obtain ⟨⟨d, p⟩, sm⟩ := g
  obtain ⟨hp, h3, h51⟩ := h
  have hp' : p = .tc := hp
  subst hp'
  cases sm with
  | reg s => exact absurd h3 (by show ¬ 3 ≤ 0; omega)
  | dma s =>
    have h3' : 3 ≤ s.val := h3
    have h51' : s.val < 51 := h51
    refine Finset.mem_map.mpr ⟨(d, ⟨s.val - 3, by omega⟩), Finset.mem_univ _, ?_⟩
    show (((d : Dev nD) : Thread nD τ), SemLoc.dma (⟨3 + (s.val - 3), _⟩ : DmaSem sig)) = (((d : Dev nD) : Thread nD τ), SemLoc.dma s)
    congr 2
    exact Fin.ext (by show 3 + (s.val - 3) = s.val; omega)

/-- What everybody knows: every cell's invariant, and that its round 0 is reached. -/
def know : sProp 𝕄 := iprop(bigSep ownCells (fun g => cellInv ER (rd m) (K g) g) ∗ bigSep ownCells (fun g => reached ER g 0))
instance know_persistent : BI.Persistent (know m K) := by unfold know; infer_instance

theorem know_inv {g : GSem nD τ sig} (h : Own g) : (know m K : sProp 𝕄) ⊢ cellInv ER (rd m) (K g) g := by
  unfold know
  iintro ⟨H, -⟩
  iapply (bigSep_out (mem_ownCells h) (Φ := fun g => cellInv ER (rd m) (K g) g)); iexact H
theorem know_reached {g : GSem nD τ sig} (h : Own g) : (know m K : sProp 𝕄) ⊢ reached ER g 0 := by
  unfold know
  iintro ⟨-, H⟩
  iapply (bigSep_out (mem_ownCells h) (Φ := fun g => (reached ER g 0 : sProp 𝕄))); iexact H

/-! ## The groups of chunks and slots -/

def todo (t : ℕ) : Finset (Fin 16) := Finset.univ.filter fun j => t ≤ j.val
def fl (a t : ℕ) : Finset (Fin 16) := Finset.univ.filter fun j => a ≤ j.val ∧ j.val < t
def dn (a : ℕ) : Finset (Fin 16) := Finset.univ.filter fun j => j.val < a
def free (a t : ℕ) : Finset (Fin 4) := Finset.univ.filter fun k => ∀ d : Fin 4, a + d.val < t → (a + d.val) % 4 ≠ k.val

theorem todo_step (j : Fin 16) : todo j.val = insert j (todo (j.val + 1)) := by
  ext i; simp only [todo, Finset.mem_filter, Finset.mem_univ, true_and, Finset.mem_insert, Fin.ext_iff]; omega
theorem todo_not (j : Fin 16) : j ∉ todo (j.val + 1) := by simp [todo]
theorem dn_step (j : Fin 16) : dn (j.val + 1) = insert j (dn j.val) := by
  ext i; simp only [dn, Finset.mem_filter, Finset.mem_univ, true_and, Finset.mem_insert, Fin.ext_iff]; omega
theorem dn_not (j : Fin 16) : j ∉ dn j.val := by simp [dn]
theorem fl_start (a : ℕ) (j : Fin 16) (h : a ≤ j.val) : fl a (j.val + 1) = insert j (fl a j.val) := by
  ext i; simp only [fl, Finset.mem_filter, Finset.mem_univ, true_and, Finset.mem_insert, Fin.ext_iff]; omega
theorem fl_start_not (a : ℕ) (j : Fin 16) : j ∉ fl a j.val := by simp [fl]
theorem fl_stop (j : Fin 16) (t : ℕ) (h : j.val < t) : fl j.val t = insert j (fl (j.val + 1) t) := by
  ext i; simp only [fl, Finset.mem_filter, Finset.mem_univ, true_and, Finset.mem_insert, Fin.ext_iff]; omega
theorem fl_stop_not (j : Fin 16) (t : ℕ) : j ∉ fl (j.val + 1) t := by simp [fl]
theorem mem_free (a t : ℕ) (k : Fin 4) : k ∈ free a t ↔
    (a < t → a % 4 ≠ k.val) ∧ (a + 1 < t → (a + 1) % 4 ≠ k.val) ∧ (a + 2 < t → (a + 2) % 4 ≠ k.val) ∧ (a + 3 < t → (a + 3) % 4 ≠ k.val) := by
  simp only [free, Finset.mem_filter, Finset.mem_univ, true_and]
  rw [Fin.forall_fin_succ, Fin.forall_fin_succ, Fin.forall_fin_succ, Fin.forall_fin_succ]
  show ((a + 0 < t → (a + 0) % 4 ≠ k.val) ∧ (a + 1 < t → (a + 1) % 4 ≠ k.val) ∧ (a + 2 < t → (a + 2) % 4 ≠ k.val) ∧ (a + 3 < t → (a + 3) % 4 ≠ k.val) ∧ _) ↔ _
  simp only [IsEmpty.forall_iff, and_true, Nat.add_zero]
theorem free_start (a : ℕ) (j : Fin 16) (h : a ≤ j.val) (h' : j.val < a + 4) : free a j.val = insert (slot j) (free a (j.val + 1)) := by
  ext k
  rw [Finset.mem_insert, mem_free, mem_free, Fin.ext_iff]
  show _ ↔ k.val = j.val % 4 ∨ _
  have := k.isLt
  omega
theorem free_start_not (a : ℕ) (j : Fin 16) (h : a ≤ j.val) (h' : j.val < a + 4) : slot j ∉ free a (j.val + 1) := by
  rw [mem_free]
  show ¬ (_ ∧ (_ → _ ≠ j.val % 4) ∧ _)
  simp only [slot]
  omega
theorem free_stop (j : Fin 16) (t : ℕ) (h : j.val < t) (h' : t ≤ j.val + 4) : free (j.val + 1) t = insert (slot j) (free j.val t) := by
  ext k
  rw [Finset.mem_insert, mem_free, mem_free, Fin.ext_iff]
  show _ ↔ k.val = j.val % 4 ∨ _
  have := k.isLt
  omega
theorem free_stop_not (j : Fin 16) (t : ℕ) (h : j.val < t) : slot j ∉ free j.val t := by
  rw [mem_free]
  simp only [slot]
  omega

/-! ## The state -/

/-- A chunk not yet sent: both places it goes to, the rights to pay its three cells, its place on its own two. -/
def todo1 (c : Dev nD) (j : Fin 16) : sProp 𝕄 :=
  iprop((∃ f, chunk c (row c) j f) ∗ (∃ f, chunk (pr c) (row c) j f)
    ∗ dutyTok ER (copyC c j) 0 () ∗ dutyTok ER (sendC c j) 0 () ∗ dutyTok ER (recvC (pr c) j) 0 ()
    ∗ atPos ER (copyC c j) 0 ∅ 0 ∗ atPos ER (sendC c j) 0 ∅ 0)
/-- A chunk in flight. -/
def flight1 (c : Dev nD) (j : Fin 16) : sProp 𝕄 :=
  iprop(cred (tallyAt (copyC c j) () N) ∗ cred (tallyAt (sendC c j) () N) ∗ atPos ER (copyC c j) 0 ∅ 0 ∗ atPos ER (sendC c j) 0 ∅ 0)
/-- A chunk finished: in place in the own buffer. -/
def done1 (c : Dev nD) (j : Fin 16) : sProp 𝕄 :=
  iprop(chunk c (row c) j (G m c) ∗ atPos ER (copyC c j) 1 ∅ 0 ∗ atPos ER (sendC c j) 1 ∅ 0)
/-- A free slot. -/
def slot1 (c : Dev nD) (k : Fin 4) : sProp 𝕄 := iprop(∃ f, slotP c k fullShare f)
/-- A chunk of the partner's to come. -/
def wait1 (c : Dev nD) (j : Fin 16) : sProp 𝕄 := iprop(atPos ER (recvC c j) 0 ∅ 0 ∗ cred (tallyAt (recvC c j) () N))
/-- A chunk of the partner's arrived. -/
def got1 (c : Dev nD) (j : Fin 16) : sProp 𝕄 := iprop(chunk c (row (pr c)) j (G m c) ∗ atPos ER (recvC c j) 1 ∅ 0)

/-- `t` chunks sent, `a` of them finished, `b` of the partner's arrived. -/
def St (c : Dev nD) (t a b : ℕ) : sProp 𝕄 :=
  iprop(bigSep (todo t) (fun j => todo1 c j) ∗ bigSep (fl a t) (fun j => flight1 c j) ∗ bigSep (dn a) (fun j => done1 m c j)
    ∗ bigSep (free a t) (fun k => slot1 c k) ∗ bigSep (todo b) (fun j => wait1 c j) ∗ bigSep (dn b) (fun j => got1 m c j))

/-- The state with what everybody knows, the levels, and what the device owes. -/
def Ctx (c : Dev nD) (t a b : ℕ) : sProp 𝕄 :=
  iprop(know m K ∗ levAts L lv ∗ St m c t a b ∗ ∃ W, owes (c : Thread nD τ) (dues c t) W)

/-! ## Waiting for a chunk's own copies -/

/-- The two waits that end a chunk's flight: its chunk of the own buffer is in place and its slot is free again. -/
theorem wp_pair (c : Dev nD) (t b : ℕ) (j : Fin 16) (h1 : j.val < t) (h2 : t ≤ j.val + 4) {s1 s2 : DmaSem sig}
    (e1 : s1 = copyS j) (e2 : s2 = sendS j)
    {sp1 sp1' sp2 sp2' : Space} {sh1 sh2 : Shape} {el1 el2 : EltTy}
    {src1 : Memref sig .tc sp1 sh1 el1} {dst1 : Memref sig .tc sp1' sh1 el1} {src2 : Memref sig .tc sp2 sh2 el2} {dst2 : Memref sig .tc sp2' sh2 el2}
    (n1 : dst1.view.dmaCredit = N) (n2 : dst2.view.dmaCredit = N) {x1 y1 x2 y2}
    {k : PUnit → Prog (TpuEff nD τ sig (Elt F) Λ₀ .tc) PUnit} {Q : PUnit → sProp 𝕄} {R : sProp 𝕄}
    (hk : iprop(Ctx m K c t (j.val + 1) b ∗ R) ⊢ wp frame (wpE (defs₀ (F := F)) 𝒱₀ c none) Set.univ (k ⟨⟩) Q) :
    iprop(Ctx m K c t j.val b ∗ R)
      ⊢ wp frame (wpE (defs₀ (F := F)) 𝒱₀ c none) Set.univ (.op (.waitDma2 s1 src1 dst1 x1 y1) fun _ => .op (.waitDma2 s2 src2 dst2 x2 y2) k) Q := by
  subst e1 e2
  unfold Ctx St
  rw [fl_stop j t h1, bigSep_ins (fl_stop_not j t)]
  unfold flight1
  iintro ⟨⟨#Hk, #Hlev, ⟨Htodo, ⟨⟨HcC, HcS, HaC, HaS⟩, Hfl⟩, Hdn, Hfree, Hw, Hg⟩, ⟨%W, HO⟩⟩, HR⟩
  iapply (Rounds.wp_wait_rest_token 𝒱₀ ER (rd m) (c : Thread nD τ) none (κ := K (copyC c j))
      (wpE_waitDma2_eq (src := src1) (dst := dst1) 𝒱₀ (c : Thread nD τ) none Set.univ) (Set.mem_univ _) () (O := dues c t) (W := W) (R := 0) (m := 0) (T := ∅)
      ((Nat.zero_add _).trans (n1.trans (expect_own m (own_copy c j)).symm))) $$ [HcC HO HaC]
  · isplitr; · iapply (know_inv m K (own_copy c j)); iexact Hk
    isplitl [HcC]; · rw [n1]; iexact HcC
    isplitl [HO]; · iexact HO
    isplitr; · iapply (mayWait c (.dma (copyS j)) t (Or.inl (by have := j.isLt; show 3 + j.val < 35; omega))); iexact Hlev
    iexact HaC
  iintro ⟨HO, HaC, -, Hpay⟩
  ihave Hp := (Entails.of_eq (rest_copy m c j)) $$ Hpay
  unfold copyPay
  icases Hp with ⟨Hch, Hs1⟩
  iapply (Rounds.wp_wait_rest_token 𝒱₀ ER (rd m) (c : Thread nD τ) none (κ := K (sendC c j))
      (wpE_waitDma2_eq (src := src2) (dst := dst2) 𝒱₀ (c : Thread nD τ) none Set.univ) (Set.mem_univ _) () (O := dues c t)
      (W := insert (SemLoc.dma (copyS j), ()) W) (R := 0) (m := 0) (T := ∅)
      ((Nat.zero_add _).trans (n2.trans (expect_own m (own_send c j)).symm))) $$ [HcS HO HaS]
  · isplitr; · iapply (know_inv m K (own_send c j)); iexact Hk
    isplitl [HcS]; · rw [n2]; iexact HcS
    isplitl [HO]; · iexact HO
    isplitr; · iapply (mayWait c (.dma (sendS j)) t (Or.inl (by have := j.isLt; show 19 + j.val < 35; omega))); iexact Hlev
    iexact HaS
  iintro ⟨HO, HaS, -, Hpay⟩
  ihave Hs2 := (Entails.of_eq (rest_send m c j)) $$ Hpay
  unfold sendPay
  ihave Hs := (pointsTo_share (PosShare.mem_left_op_right fullShare)).2 $$ [Hs1 Hs2]
  · isplitl [Hs1] <;> iassumption
  iapply hk
  unfold Ctx St
  rw [dn_step j, bigSep_ins (dn_not j), free_stop j t h1 h2, bigSep_ins (free_stop_not j t h1)]
  isplitr [HR]; swap; · iexact HR
  isplitr; · iexact Hk
  isplitr; · iexact Hlev
  isplitr [HO]; swap; · iexists _; iexact HO
  isplitl [Htodo]; · iexact Htodo
  isplitl [Hfl]; · iexact Hfl
  isplitl [Hdn Hch HaC HaS]
  · isplitr [Hdn]; swap; · iexact Hdn
    unfold done1
    isplitl [Hch]; · iexact Hch
    isplitl [HaC]; · iexact HaC
    iexact HaS
  isplitl [Hfree Hs]
  · isplitl [Hs]
    · unfold slot1; iexists _; iexact Hs
    · iexact Hfree
  isplitl [Hw]; · iexact Hw
  iexact Hg

/-- The wait for one of the partner's chunks, every own chunk being sent. -/
theorem wp_recv (c : Dev nD) (t a : ℕ) (ht : 16 ≤ t) (j : Fin 16) {s1 : DmaSem sig} (e1 : s1 = recvS j)
    {sp1 sp1' : Space} {sh1 : Shape} {el1 : EltTy} {src1 : Memref sig .tc sp1 sh1 el1} {dst1 : Memref sig .tc sp1' sh1 el1}
    (n1 : dst1.view.dmaCredit = N) {x1 y1}
    {k : PUnit → Prog (TpuEff nD τ sig (Elt F) Λ₀ .tc) PUnit} {Q : PUnit → sProp 𝕄} {R : sProp 𝕄}
    (hk : iprop(Ctx m K c t a (j.val + 1) ∗ R) ⊢ wp frame (wpE (defs₀ (F := F)) 𝒱₀ c none) Set.univ (k ⟨⟩) Q) :
    iprop(Ctx m K c t a j.val ∗ R)
      ⊢ wp frame (wpE (defs₀ (F := F)) 𝒱₀ c none) Set.univ (.op (.waitDma2 s1 src1 dst1 x1 y1) k) Q := by
  subst e1
  unfold Ctx St
  rw [todo_step j, bigSep_ins (todo_not j), dues_end c t ht]
  unfold wait1
  iintro ⟨⟨#Hk, #Hlev, ⟨Htodo, Hfl, Hdn, Hfree, ⟨⟨HaR, HcR⟩, Hw⟩, Hg⟩, ⟨%W, HO⟩⟩, HR⟩
  iapply (Rounds.wp_wait_rest_token 𝒱₀ ER (rd m) (c : Thread nD τ) none (κ := K (recvC c j))
      (wpE_waitDma2_eq (src := src1) (dst := dst1) 𝒱₀ (c : Thread nD τ) none Set.univ) (Set.mem_univ _) () (O := 0) (W := W) (R := 0) (m := 0) (T := ∅)
      ((Nat.zero_add _).trans (n1.trans (expect_own m (own_recv c j)).symm))) $$ [HcR HO HaR]
  · isplitr; · iapply (know_inv m K (own_recv c j)); iexact Hk
    isplitl [HcR]; · rw [n1]; iexact HcR
    isplitl [HO]; · iexact HO
    isplitr; · rw [MayWait_zero]; iempintro
    iexact HaR
  iintro ⟨HO, HaR, -, Hpay⟩
  ihave Hp := (Entails.of_eq (rest_recv m c j)) $$ Hpay
  unfold recvPay
  iapply hk
  unfold Ctx St
  rw [dn_step j, bigSep_ins (dn_not j), dues_end c t ht]
  isplitr [HR]; swap; · iexact HR
  isplitr; · iexact Hk
  isplitr; · iexact Hlev
  isplitr [HO]; swap; · iexists _; iexact HO
  isplitl [Htodo]; · iexact Htodo
  isplitl [Hfl]; · iexact Hfl
  isplitl [Hdn]; · iexact Hdn
  isplitl [Hfree]; · iexact Hfree
  isplitl [Hw]; · iexact Hw
  isplitl [Hp HaR]
  · unfold got1
    isplitl [Hp]; · iexact Hp
    iexact HaR
  iexact Hg

end Cert.KernelIdeal.Run

end
-- ==== Proof.Start.lean ====
/- One chunk's logits stored into its slot, and the two copies of it started: the local one and the one to the partner. -/
module

public import proofs.«01_k».proof.Proof.State

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-- What the local copy of chunk `j` delivers is the copy semaphore's payload. -/
theorem pay_copy (c : Dev nD) (j : Fin 16) {off6 off7 : Fin 3 → ℕ} (inb6 : ∀ a, off6 a + S1x1024x1024.size a ≤ S2x1024x16384.size a)
    (inb7 : ∀ a, off7 a + S1x1024x1024.size a ≤ S4x1024x1024.size a) (e6 : off6 = ![(row c).val, 0, 1024 * j.val]) (e7 : off7 = ![(slot j).val, 0, 0])
    (fd : Buf (Elt F) ((c : Thread nD τ).loc main_v1)) :
    iprop(((outV off6 inb6).view.loc (c : Thread nD τ) ↦[(outV off6 inb6).view.set]{fullShare}
          ((outV off6 inb6).view.write (Elt F) fd ((slotV off7 inb7).view.read (Elt F) (S m c j)) Finset.univ))
        ∗ ((slotV off7 inb7).view.loc (c : Thread nD τ) ↦[(slotV off7 inb7).view.set]{fullShare.left} S m c j))
      ⊢ ((rd (F := F) m).payload (copyC c j) 0 () : sProp 𝕄) := by
  rw [payload_copy, outV_set inb6 (row c) j e6, slotV_set inb7 (slot j) e7]
  unfold copyPay chunk slotP
  iintro ⟨H1, H2⟩
  isplitl [H1]
  · ihave H := (Entails.of_eq (pointsTo_congr (ℓ := (c : Thread nD τ).loc main_v1) (q := fullShare) (landed m c c j inb6 inb7 e6 e7 (src_row c) fd))) $$ H1
    iexact H
  · iexact H2

/-- What the remote copy of chunk `j` delivers at the partner is the partner's receive payload. -/
theorem pay_recv (c : Dev nD) (j : Fin 16) {off6 off7 : Fin 3 → ℕ} (inb6 : ∀ a, off6 a + S1x1024x1024.size a ≤ S2x1024x16384.size a)
    (inb7 : ∀ a, off7 a + S1x1024x1024.size a ≤ S4x1024x1024.size a) (e6 : off6 = ![(row c).val, 0, 1024 * j.val]) (e7 : off7 = ![(slot j).val, 0, 0])
    (fd : Buf (Elt F) ((pr c : Thread nD τ).loc main_v1)) :
    ((outV off6 inb6).view.loc (pr c : Thread nD τ) ↦[(outV off6 inb6).view.set]{fullShare}
          ((outV off6 inb6).view.write (Elt F) fd ((slotV off7 inb7).view.read (Elt F) (S m c j)) Finset.univ))
      ⊢ ((rd (F := F) m).payload (recvC (pr c) j) 0 () : sProp 𝕄) := by
  rw [payload_recv, outV_set inb6 (row c) j e6]
  unfold recvPay chunk
  rw [pr_pr]
  iintro H1
  ihave H := (Entails.of_eq (pointsTo_congr (ℓ := (pr c : Thread nD τ).loc main_v1) (q := fullShare) (landed m c (pr c) j inb6 inb7 e6 e7 (src_pr_row c) fd))) $$ H1
  iexact H

/-- Chunk `j` stored into its slot and both its copies started. -/
theorem wp_start (c : Dev nD) (a b : ℕ) (j : Fin 16) (h : a ≤ j.val) (h' : j.val < a + 4) {off4 off6 off7 : Fin 3 → ℕ}
    {inb4 : ∀ a, off4 a + S1x1024x1024.size a ≤ S4x1024x1024.size a} {inb6 : ∀ a, off6 a + S1x1024x1024.size a ≤ S2x1024x16384.size a}
    {inb7 : ∀ a, off7 a + S1x1024x1024.size a ≤ S4x1024x1024.size a}
    (e4 : off4 = ![(slot j).val, 0, 0]) (e6 : off6 = ![(row c).val, 0, 1024 * j.val]) (e7 : off7 = ![(slot j).val, 0, 0])
    {s5 s6 s7 : DmaSem sig} (e5 : s5 = copyS j) (es : s6 = sendS j) (er : s7 = recvS j) {d : Dev nD} (ed : d = pr c)
    {w : FVec F S1x1024x1024 .bf16} (ew : w = part m c (pt0 j))
    {hl hx hm hs1 hd1 ht1 hs2 hsc} {hd2 : (DmaTarget.remote (nD := nD) (Dev.tc (τ := τ) d) (outV off6 inb6) (SemLoc.dma s6) hsc).view.WordExact} {ht2 : DmaTarget.Typed (τ := τ) (nD := nD) Space.vmem (SemLoc.dma s7) (DmaTarget.remote (Dev.tc d) (outV off6 inb6) (SemLoc.dma s6) hsc)}
    {k : PUnit → Prog (TpuEff nD τ sig (Elt F) Λ₀ .tc) PUnit} {Q : PUnit → sProp 𝕄} {R : sProp 𝕄}
    (hk : iprop(Ctx m K c (j.val + 1) a b ∗ R) ⊢ wp frame (wpE (defs₀ (F := F)) 𝒱₀ c none) Set.univ (k ⟨⟩) Q) :
    iprop(Ctx m K c j.val a b ∗ R)
      ⊢ wp frame (wpE (defs₀ (F := F)) 𝒱₀ c none) Set.univ
        (.op (.load (Memref.whole cc0_scratch0) (Rect.unit (s := S4x1024x1024) off4 S1x1024x1024.size inb4).toLoadRect hl) fun _ =>
          .op (.store (Memref.whole cc0_scratch0) (Rect.unit (s := S4x1024x1024) off4 S1x1024x1024.size inb4) w Finset.univ hx hm) fun _ =>
          .op (.enqueueDma (slotV off7 inb7) (.here (outV off6 inb6)) (.dma s5) hs1 hd1 ht1) fun _ =>
          .op (.enqueueDma (slotV off7 inb7) (.remote (Dev.tc d) (outV off6 inb6) (.dma s6) hsc) (.dma s7) hs2 hd2 ht2) k) Q := by
  subst e5 es er ed ew
  unfold Ctx St
  rw [todo_step j, bigSep_ins (todo_not j), free_start a j h h', bigSep_ins (free_start_not a j h h'), dues_step c j]
  unfold todo1 slot1
  iintro ⟨⟨#Hk, #Hlev, ⟨⟨⟨⟨%f1, Hc1⟩, ⟨%f2, Hc2⟩, HtC, HtS, HtR, HaC, HaS⟩, Htodo⟩, Hfl, Hdn, ⟨⟨%f, Hs⟩, Hfree⟩, Hw, Hg⟩, ⟨%W, HO⟩⟩, HR⟩
  have hset : ((Memref.whole cc0_scratch0).access (Rect.unit (s := S4x1024x1024) off4 S1x1024x1024.size inb4)).set = slotSet (slot j) := by
    subst e4; exact View.set_slice_whole _ _
  iapply (wp_load_rect 𝒱₀ (c : Thread nD τ) none Set.univ (m := Memref.whole cc0_scratch0) (r := Rect.unit (s := S4x1024x1024) off4 S1x1024x1024.size inb4) (S := slotSet (slot j)) (q := fullShare) (f := f) hset.le) $$ Hs
  iintro Hs
  iapply (wp_store 𝒱₀ (c : Thread nD τ) none Set.univ (m := Memref.whole cc0_scratch0) (r := Rect.unit (s := S4x1024x1024) off4 S1x1024x1024.size inb4) (S := slotSet (slot j)) (f := f) (by rw [View.setOn_univ]; exact hset.le)) $$ Hs
  iintro Hs
  ihave Hs := (Entails.of_eq (pointsTo_congr (ℓ := (c : Thread nD τ).loc cc0_scratch0) (q := fullShare) (stored m c j inb4 e4 f))) $$ Hs
  ihave Hs := (pointsTo_share (PosShare.mem_left_op_right fullShare)).1 $$ Hs
  icases Hs with ⟨Hs1, Hs2⟩
  iapply (Rounds.wp_copy_pointsTo 𝒱₀ ER (rd m) (c : Thread nD τ) none (src := slotV off7 inb7) (dst := outV off6 inb6) (sem := .dma (copyS j)) (q := fullShare.left)
      (fs := S m c j) (fd := f1) (r := 0) (d := ()) (κ := K (copyC c j))
      (by rw [duties_own m (own_copy c j)]; exact Finset.mem_singleton_self _) () N rfl rfl
      (pay_copy m c j inb6 inb7 e6 e7 f1)) $$ [Hs1 Hc1 HtC]
  · isplitr; · iapply (know_inv m K (own_copy c j)); iexact Hk
    isplitl [Hs1]; · rw [slotV_set inb7 (slot j) e7]; iexact Hs1
    isplitl [Hc1]; · rw [outV_set inb6 (row c) j e6]; iexact Hc1
    isplitl [HtC]; · iexact HtC
    iapply (know_reached m K (own_copy c j)); iexact Hk
  iintro HcC
  iapply (Rounds.wp_send_pointsTo 𝒱₀ ER (rd m) (c : Thread nD τ) none (c' := (pr c : Thread nD τ)) (src := slotV off7 inb7) (dst := outV off6 inb6)
      (sS := .dma (sendS j)) (sem := .dma (recvS j)) (q := fullShare.right) (fs := S m c j) (fd := f2) (r₁ := 0) (r₂ := 0) (d₁ := ()) (d₂ := ())
      (κ₁ := K (sendC c j)) (κ₂ := K (recvC (pr c) j))
      (by rw [duties_own m (own_send c j)]; exact Finset.mem_singleton_self _)
      (by rw [duties_own m (own_recv (pr c) j)]; exact Finset.mem_singleton_self _) () () N rfl rfl rfl (dues c (j.val + 1)) rfl (W := W)
      (by rw [payload_send, slotV_set inb7 (slot j) e7]; exact BI.Entails.refl _)
      (pay_recv m c j inb6 inb7 e6 e7 f2)) $$ [Hs2 Hc2 HO HtS HtR]
  · isplitr; · iapply (know_inv m K (own_send c j)); iexact Hk
    isplitr; · iapply (know_inv m K (own_recv (pr c) j)); iexact Hk
    isplitl [Hs2]; · rw [slotV_set inb7 (slot j) e7]; iexact Hs2
    isplitl [Hc2]; · rw [outV_set inb6 (row c) j e6]; iexact Hc2
    isplitl [HO]; · iexact HO
    isplitl [HtS]; · iexact HtS
    isplitr; · iapply (know_reached m K (own_send c j)); iexact Hk
    isplitl [HtR]; · iexact HtR
    iapply (know_reached m K (own_recv (pr c) j)); iexact Hk
  iintro ⟨HcS, HO⟩
  iapply hk
  unfold Ctx St
  rw [fl_start a j h, bigSep_ins (fl_start_not a j)]
  isplitr [HR]; swap; · iexact HR
  isplitr; · iexact Hk
  isplitr; · iexact Hlev
  isplitr [HO]; swap; · iexists _; iexact HO
  isplitl [Htodo]; · iexact Htodo
  isplitl [Hfl HcC HcS HaC HaS]
  · isplitr [Hfl]; swap; · iexact Hfl
    unfold flight1
    isplitl [HcC]; · iexact HcC
    isplitl [HcS]; · iexact HcS
    isplitl [HaC]; · iexact HaC
    iexact HaS
  isplitl [Hdn]; · iexact Hdn
  isplitl [Hfree]; · iexact Hfree
  isplitl [Hw]; · iexact Hw
  iexact Hg

end Cert.KernelIdeal.Run

end
-- ==== Proof.Close.lean ====
/- The buffers and semaphores of the exchange taken apart and put together again. -/
module

public import proofs.«01_k».proof.Proof.Start

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-! ## The result buffer and the scratch -/

/-- The chunks of one half are disjoint. -/
theorem chunk_disj (h : Fin 2) : ∀ t ∈ (Finset.univ : Finset (Fin 16)), ∀ t' ∈ (Finset.univ : Finset (Fin 16)), t ≠ t' → Disjoint (chunkSet h t) (chunkSet h t') := by
  intro t _ t' _ hne
  rw [Finset.disjoint_left]
  intro i hi hi'
  rw [mem_chunkSet] at hi hi'
  exact hne (Fin.ext (hi.2.symm.trans hi'.2))
/-- The slots are disjoint. -/
theorem slot_disj : ∀ t ∈ (Finset.univ : Finset (Fin 4)), ∀ t' ∈ (Finset.univ : Finset (Fin 4)), t ≠ t' → Disjoint (slotSet t) (slotSet t') := by
  intro t _ t' _ hne
  rw [Finset.disjoint_left]
  intro i hi hi'
  rw [mem_slotSet] at hi hi'
  exact hne (Fin.ext (hi.symm.trans hi'))
/-- The slots make up the scratch. -/
theorem slot_cover : (Finset.univ : Finset (Fin 4)).biUnion slotSet = Finset.univ := by
  ext i
  simp only [Finset.mem_biUnion, Finset.mem_univ, true_and, iff_true]
  exact ⟨i 0, (mem_slotSet (i 0) i).mpr rfl⟩

/-- The indices of one half. -/
def halfSet (h : Fin 2) : Finset S2x1024x16384.Idx := (Finset.univ : Finset (Fin 16)).biUnion (chunkSet h)
theorem mem_halfSet (h : Fin 2) (i : S2x1024x16384.Idx) : i ∈ halfSet h ↔ (i 0).val = h.val := by
  unfold halfSet
  simp only [Finset.mem_biUnion, Finset.mem_univ, true_and, mem_chunkSet]
  refine ⟨fun ⟨_, h, _⟩ => h, fun e => ⟨⟨(i 2).val / 1024, ?_⟩, e, rfl⟩⟩
  have h2 : (i 2).val < 16384 := (i 2).isLt
  omega
theorem half_disj (c : Dev nD) : Disjoint (halfSet (row c)) (halfSet (row (pr c))) := by
  rw [Finset.disjoint_left]
  intro i hi hi'
  rw [mem_halfSet] at hi hi'
  exact row_pr_ne c (Fin.ext (hi'.symm.trans hi))
theorem half_cover (c : Dev nD) : halfSet (row c) ∪ halfSet (row (pr c)) = Finset.univ := by
  ext i
  simp only [Finset.mem_union, mem_halfSet, Finset.mem_univ, iff_true]
  have h0 : (i 0).val < 2 := (i 0).isLt
  have hc : c.val < 4 := c.isLt
  show (i 0).val = c.val / 2 ∨ (i 0).val = ((c.val % 2 + 2) - 2 * (c.val / 2)) / 2
  omega

/-- The result buffer is its two halves' chunks. -/
theorem v1_split (c : Dev nD) (f : Buf (Elt F) ((c : Thread nD τ).loc main_v1)) :
    ((((c : Thread nD τ).loc main_v1) ↦{fullShare} f : sProp 𝕄))
      = iprop((bigSep Finset.univ fun j : Fin 16 => chunk c (row c) j f) ∗ (bigSep Finset.univ fun j : Fin 16 => chunk c (row (pr c)) j f)) := by
  have e1 := pointsTo_biUnion (Ix := Unit) (Name := ℕ) (U := UU) (Lvl := ℕ) (ℓ := (c : Thread nD τ).loc main_v1) (q := fullShare) (f := f) Finset.univ (chunkSet (row c)) (chunk_disj (row c))
  have e2 := pointsTo_biUnion (Ix := Unit) (Name := ℕ) (U := UU) (Lvl := ℕ) (ℓ := (c : Thread nD τ).loc main_v1) (q := fullShare) (f := f) Finset.univ (chunkSet (row (pr c))) (chunk_disj (row (pr c)))
  have e3 := pointsTo_union (Ix := Unit) (Name := ℕ) (U := UU) (Lvl := ℕ) (ℓ := (c : Thread nD τ).loc main_v1) (q := fullShare) (f := f) (half_disj c)
  unfold chunk
  rw [← e1, ← e2]
  refine Eq.trans ?_ (BI.equiv_iff.mp ⟨e3.1, e3.2⟩)
  rw [half_cover]

/-- The scratch at any contents is its four slots, each at some contents. -/
theorem scr_split (c : Dev nD) : (iprop(∃ f, ((c : Thread nD τ).loc cc0_scratch0) ↦{fullShare} f) : sProp 𝕄) ⊢ bigSep Finset.univ fun k : Fin 4 => slot1 c k := by
  iintro ⟨%f, H⟩
  have e1 := pointsTo_biUnion (Ix := Unit) (Name := ℕ) (U := UU) (Lvl := ℕ) (ℓ := (c : Thread nD τ).loc cc0_scratch0) (q := fullShare) (f := f) Finset.univ slotSet slot_disj
  rw [slot_cover] at e1
  ihave H := (Entails.of_eq e1) $$ H
  have h : (bigSep Finset.univ fun k : Fin 4 => slotP c k fullShare f : sProp 𝕄) ⊢ bigSep Finset.univ fun k : Fin 4 => slot1 c k :=
    bigSep_mono fun k _ => show (slotP c k fullShare f : sProp 𝕄) ⊢ slot1 c k by unfold slot1; iintro H; iexists f; iexact H
  iapply h
  iexact H
theorem scr_join (c : Dev nD) : (bigSep Finset.univ fun k : Fin 4 => slot1 c k) ⊢ (iprop(∃ f, ((c : Thread nD τ).loc cc0_scratch0) ↦{fullShare} f) : sProp 𝕄) := by
  unfold slot1
  iintro H
  ihave H := (bigSep_exists_pi (Y := fun _ : Fin 4 => Buf (Elt F) ((c : Thread nD τ).loc cc0_scratch0)) Finset.univ fun k f => slotP c k fullShare f) $$ H
  icases H with ⟨%y, H⟩
  ihave H := (pointsTo_biUnion_join (Ix := Unit) (Name := ℕ) (U := UU) (Lvl := ℕ) (ℓ := (c : Thread nD τ).loc cc0_scratch0) (q := fullShare) Finset.univ slotSet y (y 0) slot_disj) $$ H
  icases H with ⟨%g, -, H⟩
  iexists g
  rw [slot_cover]
  iexact H

/-! ## The semaphores -/

/-- Over the exchange's semaphores of one device: the copy, the send and the receive semaphores. -/
theorem own_split (c : Dev nD) (Φ : GSem nD τ sig → sProp 𝕄) :
    (bigSep Finset.univ fun k : Fin (3 * 16) => Φ ((c : Thread nD τ), osem0 k))
      = iprop((bigSep Finset.univ fun j : Fin 16 => Φ (copyC c j)) ∗ (bigSep Finset.univ fun j : Fin 16 => Φ (sendC c j))
        ∗ (bigSep Finset.univ fun j : Fin 16 => Φ (recvC c j))) := by
  rw [bigSep_univ_equiv (finProdFinEquiv (m := 3) (n := 16)), bigSep_univ_prod]
  have e : ∀ (i : Fin 3) (b : ℕ) (j : Fin 16), b = 3 + 16 * i.val → ∀ hb, osem0 (finProdFinEquiv (i, j)) = .dma ⟨b + j.val, hb⟩ := by
    intro i b j hb hlt
    show SemLoc.dma (⟨3 + (j.val + 16 * i.val), _⟩ : DmaSem sig) = .dma ⟨b + j.val, hlt⟩
    congr 2
    omega
  have e0 : (bigSep Finset.univ fun j : Fin 16 => Φ ((c : Thread nD τ), osem0 (finProdFinEquiv ((0 : Fin 3), j)))) = bigSep Finset.univ fun j : Fin 16 => Φ (copyC c j) :=
    bigSep_congr fun j _ => by rw [e 0 3 j rfl]; rfl
  have e1 : (bigSep Finset.univ fun j : Fin 16 => Φ ((c : Thread nD τ), osem0 (finProdFinEquiv ((1 : Fin 3), j)))) = bigSep Finset.univ fun j : Fin 16 => Φ (sendC c j) :=
    bigSep_congr fun j _ => by rw [e 1 19 j rfl]; rfl
  have e2 : (bigSep Finset.univ fun j : Fin 16 => Φ ((c : Thread nD τ), osem0 (finProdFinEquiv ((2 : Fin 3), j)))) = bigSep Finset.univ fun j : Fin 16 => Φ (recvC c j) :=
    bigSep_congr fun j _ => by rw [e 2 35 j rfl]; rfl
  rw [show (Finset.univ : Finset (Fin 3)) = insert 0 (insert 1 {2}) by decide, bigSep_ins (by decide), bigSep_ins (by decide), bigSep_singleton, e0, e1, e2]

/-- A cell whose round is over, closed: its counter, at zero. -/
theorem close1 (κ : ℕ) (g : GSem nD τ sig) :
    iprop(cellInv ER (rd (F := F) m) κ g ∗ atPos ER g 1 ∅ 0) ⊢ (iprop(|={Set.univ}=> semVal g 0) : sProp 𝕄) :=
  Rounds.cell_close ER (rd m) (Set.mem_univ κ) id (duties_later m g)

/-- A group each of whose members can be updated with the help of what everybody knows. -/
theorem group_upd {ι : Type} [DecidableEq ι] (A : Finset ι) (P : sProp 𝕄) [BI.Persistent P] {Φ Ψ : ι → sProp 𝕄}
    (h : ∀ i ∈ A, iprop(P ∗ Φ i) ⊢ iprop(|={Set.univ}=> Ψ i)) : iprop(P ∗ bigSep A Φ) ⊢ iprop(|={Set.univ}=> bigSep A Ψ) :=
  (bigSep_with_persistent h).trans (bigSep_fupd A Ψ)

/-! ## The end of the first call -/

/-- What the first call leaves: the result buffer whole, the exchange's semaphores at zero, the scratch. -/
def Done (c : Dev nD) : sProp 𝕄 :=
  iprop((((c : Thread nD τ).loc main_v1) ↦{fullShare} G m c) ∗ (bigSep Finset.univ fun k : Fin (3 * 16) => semVal ((c : Thread nD τ), osem0 k) 0)
    ∗ ∃ f, ((c : Thread nD τ).loc cc0_scratch0) ↦{fullShare} f)

theorem todo_end : todo 16 = ∅ := by decide
theorem fl_end : fl 16 16 = ∅ := by decide
theorem dn_end : dn 16 = Finset.univ := by decide
theorem free_end : free 16 16 = Finset.univ := by decide

/-- Every chunk finished and every one of the partner's arrived: the cells closed, the buffers whole. -/
theorem finish (c : Dev nD) : iprop(know m K ∗ St m c 16 16 16) ⊢ iprop(|={Set.univ}=> Done m c) := by
  unfold St Done
  rw [todo_end, fl_end, dn_end, free_end, v1_split c (G m c), own_split c fun g => semVal g 0]
  iintro ⟨#Hk, -, -, Hd, Hfree, -, Hg⟩
  imod (group_upd Finset.univ (know m K) (Φ := fun j : Fin 16 => done1 m c j)
    (Ψ := fun j => iprop(chunk c (row c) j (G m c) ∗ semVal (copyC c j) 0 ∗ semVal (sendC c j) 0)) (fun j _ => by
      unfold done1
      iintro ⟨#Hk, Hc, Ha, Hb⟩
      imod (close1 m (K (copyC c j)) (copyC c j)) $$ [Ha] with Hx
      · isplitr; · iapply (know_inv m K (own_copy c j)); iexact Hk
        iexact Ha
      imod (close1 m (K (sendC c j)) (sendC c j)) $$ [Hb] with Hy
      · isplitr; · iapply (know_inv m K (own_send c j)); iexact Hk
        iexact Hb
      imodintro
      isplitl [Hc]; · iexact Hc
      isplitl [Hx]; · iexact Hx
      iexact Hy)) $$ [Hd] with Hd
  · isplitr; · iexact Hk
    iexact Hd
  imod (group_upd Finset.univ (know m K) (Φ := fun j : Fin 16 => got1 m c j)
    (Ψ := fun j => iprop(chunk c (row (pr c)) j (G m c) ∗ semVal (recvC c j) 0)) (fun j _ => by
      unfold got1
      iintro ⟨#Hk, Hc, Ha⟩
      imod (close1 m (K (recvC c j)) (recvC c j)) $$ [Ha] with Hx
      · isplitr; · iapply (know_inv m K (own_recv c j)); iexact Hk
        iexact Ha
      imodintro
      isplitl [Hc]; · iexact Hc
      iexact Hx)) $$ [Hg] with Hg
  · isplitr; · iexact Hk
    iexact Hg
  imodintro
  ihave Hd := (Entails.of_eq (bigSep_sep' Finset.univ (fun j : Fin 16 => chunk c (row c) j (G m c)) fun j => iprop(semVal (copyC c j) 0 ∗ semVal (sendC c j) 0))) $$ Hd
  icases Hd with ⟨Hd1, Hd⟩
  ihave Hd := (Entails.of_eq (bigSep_sep' Finset.univ (fun j : Fin 16 => (semVal (copyC c j) 0 : sProp 𝕄)) fun j => semVal (sendC c j) 0)) $$ Hd
  icases Hd with ⟨Hd2, Hd3⟩
  ihave Hg := (Entails.of_eq (bigSep_sep' Finset.univ (fun j : Fin 16 => chunk c (row (pr c)) j (G m c)) fun j => semVal (recvC c j) 0)) $$ Hg
  icases Hg with ⟨Hg1, Hg2⟩
  isplitl [Hd1 Hg1]
  · isplitl [Hd1]; · iexact Hd1
    iexact Hg1
  isplitl [Hd2 Hd3 Hg2]
  · isplitl [Hd2]; · iexact Hd2
    isplitl [Hd3]; · iexact Hd3
    iexact Hg2
  iapply (scr_join c); iexact Hfree

end Cert.KernelIdeal.Run

end
-- ==== Proof.Step.lean ====
/- One point of the first call's grid: an older chunk's copies waited for, a chunk of logits computed and its copies started, and
   at the last point everything waited for. -/
module

public import proofs.«01_k».proof.Proof.Close
public import proofs.«01_k».proof.Proof.Gen.KernelIdeal.Points
public import proofs.«01_k».proof.Proof.Gen.KernelIdeal.Skeleton
public import Idealize.ShloMosaic.Lib.VecWindow

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-- A load of a whole memref reads its contents. -/
theorem wp_load_all (c : Dev nD) {s : Shape} {e : EltTy} {M : Memref sig .tc .vmem s e} {off : Fin s.rank → ℕ}
    {inb : ∀ a, off a + s.size a ≤ s.size a} {q : PosShare TreeShare} {X : s.Idx → Elt F e} {hl}
    {k : (s.Idx → Elt F e) → Prog (TpuEff nD τ sig (Elt F) Λ₀ .tc) PUnit} {Q : PUnit → sProp 𝕄} :
    (owns (c : Thread nD τ) M q X : sProp 𝕄)
      ⊢ iprop((owns (c : Thread nD τ) M q X -∗ wp frame (wpE (defs₀ (F := F)) 𝒱₀ c none) Set.univ (k X) Q)
        -∗ wp frame (wpE (defs₀ (F := F)) 𝒱₀ c none) Set.univ (.op (.load M (Rect.unit (s := s) off s.size inb).toLoadRect hl) k) Q) := by
  unfold owns
  iintro ⟨%f, %hf, H⟩ Hk
  iapply (wp_load 𝒱₀ (c : Thread nD τ) none Set.univ (m := M) (r := (Rect.unit (s := s) off s.size inb).toLoadRect) (S := M.view.set) (q := q) (f := f)
    (View.setOn_subset_set _ _)) $$ H
  iintro H
  have e : M.view.readAt (Elt F) (Rect.unit (s := s) off s.size inb).toLoadRect f = X := (View.readAt_full M.view f inb).trans hf
  rw [e]
  iapply Hk
  iexists f
  isplitr; · ipureintro; exact hf
  iexact H

/-- The loads of two whole memrefs. -/
theorem wp_load_two (c : Dev nD) {s s' : Shape} {e e' : EltTy} {M : Memref sig .tc .vmem s e} {M' : Memref sig .tc .vmem s' e'} {off : Fin s.rank → ℕ}
    {inb : ∀ a, off a + s.size a ≤ s.size a} {off' : Fin s'.rank → ℕ} {inb' : ∀ a, off' a + s'.size a ≤ s'.size a}
    {q q' : PosShare TreeShare} {X : s.Idx → Elt F e} {X' : s'.Idx → Elt F e'} {hl hl'}
    {k : (s.Idx → Elt F e) → (s'.Idx → Elt F e') → Prog (TpuEff nD τ sig (Elt F) Λ₀ .tc) PUnit} {Q : PUnit → sProp 𝕄} {A R : sProp 𝕄}
    (hk : iprop(A ∗ (R ∗ owns (c : Thread nD τ) M q X) ∗ owns (c : Thread nD τ) M' q' X') ⊢ wp frame (wpE (defs₀ (F := F)) 𝒱₀ c none) Set.univ (k X X') Q) :
    iprop(A ∗ (R ∗ owns (c : Thread nD τ) M q X) ∗ owns (c : Thread nD τ) M' q' X')
      ⊢ wp frame (wpE (defs₀ (F := F)) 𝒱₀ c none) Set.univ
        (.op (.load M (Rect.unit (s := s) off s.size inb).toLoadRect hl) fun v =>
          .op (.load M' (Rect.unit (s := s') off' s'.size inb').toLoadRect hl') fun v' => k v v') Q := by
  iintro ⟨HA, ⟨HR, H⟩, H'⟩
  iapply (wp_load_all c) $$ H
  iintro H
  iapply (wp_load_all c) $$ H'
  iintro H'
  iapply hk
  isplitl [HA]; · iexact HA
  isplitr [H']; swap; · iexact H'
  isplitl [HR]; · iexact HR
  iexact H

theorem off4_eq (t : Fin cfg0.N) : k0_off4 (grid0.coords t) = ![(slot (ch t)).val, 0, 0] := by rw [k0_off4_eq, coords0]; rfl
theorem off5_eq (t : Fin cfg0.N) : k0_off5 (grid0.coords t) = ![(ch t).val] := by rw [k0_off5_eq, coords0]; rfl
theorem off6_eq (t : Fin cfg0.N) (c : Dev nD) : k0_off6 (grid0.coords t) c = ![(row c).val, 0, 1024 * (ch t).val] := by rw [k0_off6_eq, coords0]; rfl
theorem off7_eq (t : Fin cfg0.N) : k0_off7 (grid0.coords t) = ![(slot (ch t)).val, 0, 0] := by rw [k0_off7_eq, coords0]; rfl

/-- What the step from point `t` leads to: chunk `t` in flight, and at the last point everything finished. -/
def After (c : Dev nD) (t : Fin cfg0.N) : sProp 𝕄 :=
  if t.val = 15 then Ctx m K c 16 16 16 else Ctx m K c (t.val + 1) (t.val + 1 - 4) 0

/-- The four chunks still in flight after the last point's copies are started, and the partner's sixteen, waited for in turn. -/
theorem wp_last (c : Dev nD) (i : grid0.Coords) (h2 : k0_cond2 i = 1#1)
    {M1 : Memref sig .tc .vmem S1024x2048 .bf16} {h1' : M1.IsWhole} {M2 : Memref sig .tc .vmem S2048x1024 .bf16} {h2' : M2.IsWhole}
    {x y : BitVec 32} {Q : PUnit → sProp 𝕄} {R : sProp 𝕄} {k : PUnit → Prog (TpuEff nD τ sig (Elt F) Λ₀ .tc) PUnit}
    (hk : iprop(Ctx m K c 16 16 15 ∗ R) ⊢ wp frame (wpE (defs₀ (F := F)) 𝒱₀ c none) Set.univ (k ⟨⟩) Q) :
    iprop(Ctx m K c 16 12 0 ∗ R) ⊢ wp frame (wpE (defs₀ (F := F)) 𝒱₀ c none) Set.univ
      (k0_part9 (F := F) i M1 h1' M2 h2' (Memref.whole main_v1) (Memref.isWhole_whole _) (Memref.whole cc0_scratch0) (Memref.isWhole_whole _)
        cc0_scratch1 cc0_scratch2 cc0_scratch3 c x y h2 >>= k) Q := by
  simp only [k0_part9_eq_skeleton]
  unfold k0_part9_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [Prog.lift, Prog.bind_op, Prog.bind_ret, Prog.pure_eq_ret, Prog.bind_assoc]
  refine wp_pair m K c 16 0 12 (by decide) (by decide) (copy_sem _ _ rfl) (send_sem _ _ rfl) (outV_credit _) (slotV_credit _) ?_
  refine wp_pair m K c 16 0 13 (by decide) (by decide) (copy_sem _ _ rfl) (send_sem _ _ rfl) (outV_credit _) (slotV_credit _) ?_
  refine wp_pair m K c 16 0 14 (by decide) (by decide) (copy_sem _ _ rfl) (send_sem _ _ rfl) (outV_credit _) (slotV_credit _) ?_
  refine wp_pair m K c 16 0 15 (by decide) (by decide) (copy_sem _ _ rfl) (send_sem _ _ rfl) (outV_credit _) (slotV_credit _) ?_
  refine wp_recv m K c 16 16 le_rfl 0 (recv_sem _ _ rfl) (outV_credit _) ?_
  refine wp_recv m K c 16 16 le_rfl 1 (recv_sem _ _ rfl) (outV_credit _) ?_
  refine wp_recv m K c 16 16 le_rfl 2 (recv_sem _ _ rfl) (outV_credit _) ?_
  refine wp_recv m K c 16 16 le_rfl 3 (recv_sem _ _ rfl) (outV_credit _) ?_
  refine wp_recv m K c 16 16 le_rfl 4 (recv_sem _ _ rfl) (outV_credit _) ?_
  refine wp_recv m K c 16 16 le_rfl 5 (recv_sem _ _ rfl) (outV_credit _) ?_
  refine wp_recv m K c 16 16 le_rfl 6 (recv_sem _ _ rfl) (outV_credit _) ?_
  refine wp_recv m K c 16 16 le_rfl 7 (recv_sem _ _ rfl) (outV_credit _) ?_
  refine wp_recv m K c 16 16 le_rfl 8 (recv_sem _ _ rfl) (outV_credit _) ?_
  refine wp_recv m K c 16 16 le_rfl 9 (recv_sem _ _ rfl) (outV_credit _) ?_
  refine wp_recv m K c 16 16 le_rfl 10 (recv_sem _ _ rfl) (outV_credit _) ?_
  refine wp_recv m K c 16 16 le_rfl 11 (recv_sem _ _ rfl) (outV_credit _) ?_
  refine wp_recv m K c 16 16 le_rfl 12 (recv_sem _ _ rfl) (outV_credit _) ?_
  refine wp_recv m K c 16 16 le_rfl 13 (recv_sem _ _ rfl) (outV_credit _) ?_
  refine wp_recv m K c 16 16 le_rfl 14 (recv_sem _ _ rfl) (outV_credit _) ?_
  exact hk

/-- What follows the start of chunk `t`'s copies: nothing before the last point, and there the wait for everything. -/
theorem wp_tail (c : Dev nD) (t : Fin cfg0.N) {Q : PUnit → sProp 𝕄} {R : sProp 𝕄}
    {f : k0_cond2 (grid0.coords t) = 1#1 → Prog (TpuEff nD τ sig (Elt F) Λ₀ .tc) PUnit}
    (hk : iprop(After m K c t ∗ R) ⊢ iprop(|={Set.univ}=> Q ⟨⟩))
    (hf : ∀ h, (iprop(Ctx m K c 16 16 16 ∗ R) ⊢ iprop(|={Set.univ}=> Q ⟨⟩)) →
      iprop(Ctx m K c 16 12 0 ∗ R) ⊢ wp frame (wpE (defs₀ (F := F)) 𝒱₀ c none) Set.univ (f h) Q) :
    iprop(Ctx m K c ((ch t).val + 1) (t.val + 1 - 4) 0 ∗ R) ⊢ wp frame (wpE (defs₀ (F := F)) 𝒱₀ c none) Set.univ
      (if h : k0_cond2 (grid0.coords t) = 1#1 then f h else .ret PUnit.unit) Q := by
  have hN : t.val < 16 := (ch t).isLt
  unfold After at hk
  by_cases h2 : k0_cond2 (grid0.coords t) = 1#1
  · have ht : t.val = 15 := (cond2_iff t).mp h2
    rw [if_pos ht] at hk
    rw [dif_pos h2, show (ch t).val + 1 = 16 by show t.val + 1 = 16; omega, show t.val + 1 - 4 = 12 by omega]
    exact hf h2 hk
  · have ht : t.val ≠ 15 := fun h => h2 ((cond2_iff t).mpr h)
    rw [if_neg ht] at hk
    rw [dif_neg h2, wp_ret]
    exact hk

/-- One grid point of the first call. -/
theorem wp_body (c : Dev nD) (t : Fin cfg0.N) {Q : PUnit → sProp 𝕄} {R : sProp 𝕄}
    (hk : iprop(After m K c t ∗ (R ∗ owns (c : Thread nD τ) (st0_0 t) fullShare (xblk m c t)) ∗ owns (c : Thread nD τ) (st0_1 t) fullShare (wblk m c t))
      ⊢ iprop(|={Set.univ}=> Q ⟨⟩)) :
    iprop(Ctx m K c t.val (t.val - 4) 0 ∗ (R ∗ owns (c : Thread nD τ) (st0_0 t) fullShare (xblk m c t)) ∗ owns (c : Thread nD τ) (st0_1 t) fullShare (wblk m c t))
      ⊢ wp frame (wpE (defs₀ (F := F)) 𝒱₀ c none) Set.univ (bodyAt0 (F := F) t) Q := by
  unfold bodyAt0
  simp only [cc0_fused_body_eq_skeleton]
  unfold cc0_fused_body_skel
  simp only [k0_part10_eq_skeleton]
  unfold k0_part10_skel
  simp only [Prog.lift, Prog.bind_op, Prog.bind_ret, Prog.pure_eq_ret, Prog.bind_assoc, wp_deviceId]
  have hN : t.val < 16 := (ch t).isLt
  by_cases h1 : k0_cond1 (grid0.coords t) = 1#1
  · simp only [dif_pos h1, Prog.lift, Prog.bind_op, Prog.bind_ret, Prog.pure_eq_ret, Prog.bind_assoc]
    have ht := (cond1_iff t).mp h1
    have hj : t.val - 4 < 16 := by omega
    refine wp_pair m K c t.val 0 ⟨t.val - 4, hj⟩ (by show t.val - 4 < t.val; omega) (by show t.val ≤ t.val - 4 + 4; omega)
      (copy_sem _ _ (off1_eq t ht)) (send_sem _ _ (off1_eq t ht)) (outV_credit _) (slotV_credit _) ?_
    rw [show (⟨t.val - 4, hj⟩ : Fin 16).val + 1 = t.val + 1 - 4 by show t.val - 4 + 1 = t.val + 1 - 4; omega]
    refine wp_load_two c ?_
    refine wp_start m K c (t.val + 1 - 4) 0 (ch t) (by show t.val + 1 - 4 ≤ t.val; omega) (by show t.val < t.val + 1 - 4 + 4; omega)
      (off4_eq t) (off6_eq t c) (off7_eq t) (copy_sem _ _ (off5_eq t)) (send_sem _ _ (off5_eq t)) (recv_sem _ _ (off5_eq t)) (dev1_eq c) rfl ?_
    refine wp_tail m K c t hk fun h2 hk => wp_last m K c (grid0.coords t) h2 ?_
    refine wp_recv m K c 16 16 le_rfl 15 (recv_sem _ _ rfl) (outV_credit _) ?_
    rw [wp_ret]
    exact hk
  · simp only [dif_neg h1, Prog.lift, Prog.bind_op, Prog.bind_ret, Prog.pure_eq_ret, Prog.bind_assoc]
    have ht : t.val < 4 := by
      by_contra h
      exact h1 ((cond1_iff t).mpr (by omega))
    rw [show t.val - 4 = t.val + 1 - 4 by omega]
    refine wp_load_two c ?_
    refine wp_start m K c (t.val + 1 - 4) 0 (ch t) (by show t.val + 1 - 4 ≤ t.val; omega) (by show t.val < t.val + 1 - 4 + 4; omega)
      (off4_eq t) (off6_eq t c) (off7_eq t) (copy_sem _ _ (off5_eq t)) (send_sem _ _ (off5_eq t)) (recv_sem _ _ (off5_eq t)) (dev1_eq c) rfl ?_
    refine wp_tail m K c t hk fun h2 hk => wp_last m K c (grid0.coords t) h2 ?_
    refine wp_recv m K c 16 16 le_rfl 15 (recv_sem _ _ rfl) (outV_credit _) ?_
    rw [wp_ret]
    exact hk

end Cert.KernelIdeal.Run

end
-- ==== Proof.Second.lean ====
/- The second call's body: 64 rows of the softmax of the gathered logits. -/
module

public import proofs.«01_k».proof.Proof.Step

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx

variable {F : FTy → Type} [FloatOps F]

local notation "𝕄" => MT nD τ sig Unit (Elt F) ℕ UU ℕ

/-- One half of the gathered rows. -/
def halfOf (X : S2x64x16384.Idx → Elt F .bf16) (h : Fin 2) : Vec F S1x64x16384 .bf16 := fun y =>
  X (ix3 (n0 := 2) (n1 := 64) (n2 := 16384) h (y 1) (y 2))

/-- Two half rows side by side. -/
def beside (p q : FVec F S64x16384 .f32) : S64x32768.Idx → Elt F .f32 := fun y =>
  if h : (y 1).val < 16384 then p (ix2 (n0 := 64) (n1 := 16384) (y 0) ⟨(y 1).val, h⟩)
  else q (ix2 (n0 := 64) (n1 := 16384) (y 0) ⟨(y 1).val - 16384, by have h : (y 1).val < 32768 := (y 1).isLt; omega⟩)

/-- What the body writes from the rows `X`. -/
def sm (X : S2x64x16384.Idx → Elt F .bf16) : S64x32768.Idx → Elt F .f32 :=
  beside (k1_pay7 (halfOf X 0) (halfOf X 1)) (k1_pay8 (halfOf X 0) (halfOf X 1))

/-- A load of one half of the rows. -/
theorem read_half {M : Memref sig .tc .vmem S2x64x16384 .bf16} {X : S2x64x16384.Idx → Elt F .bf16} {f} (hf : M.view.read (Elt F) f = X)
    (h : Fin 2) {off : Fin 3 → ℕ} (e : off = ![h.val, 0, 0]) (inb : ∀ a, off a + S1x64x16384.size a ≤ S2x64x16384.size a) :
    M.view.readAt (Elt F) (Rect.unit (s := S2x64x16384) off S1x64x16384.size inb).toLoadRect f = halfOf X h := by
  subst e hf
  funext y
  refine congrArg (M.view.read (Elt F) f) ?_
  have h0 : (y 0).val < 1 := (y 0).isLt
  funext a
  match a with
  | ⟨0, _⟩ => exact Fin.ext (by show h.val + 1 * (y 0).val = h.val; omega)
  | ⟨1, _⟩ => exact Fin.ext (by show 0 + 1 * (y 1).val = (y 1).val; omega)
  | ⟨2, _⟩ => exact Fin.ext (by show 0 + 1 * (y 2).val = (y 2).val; omega)

/-- After a store of half a row block, what lies under it. -/
theorem at_emb {M : Memref sig .tc .vmem S64x32768 .f32} {off : Fin 2 → ℕ} (inb : ∀ a, off a + S64x16384.size a ≤ S64x32768.size a)
    (f : M.view.ty.Contents (Elt F)) (p : (Rect.unit (s := S64x32768) off S64x16384.size inb).shape.Idx → Elt F .f32)
    (z : (Rect.unit (s := S64x32768) off S64x16384.size inb).shape.Idx) :
    M.view.read (Elt F) ((M.access (Rect.unit (s := S64x32768) off S64x16384.size inb)).write (Elt F) f p Finset.univ)
      ((Rect.unit (s := S64x32768) off S64x16384.size inb).emb z) = p z :=
  View.read_slice_write_emb (v := M.view) _ f p (Finset.mem_univ z)

/-- The two stores leave the two half rows side by side. -/
theorem read_beside {M : Memref sig .tc .vmem S64x32768 .f32} (f : M.view.ty.Contents (Elt F)) (p q : FVec F S64x16384 .f32)
    (inb0 : ∀ a, (![0, 0] : Fin 2 → ℕ) a + S64x16384.size a ≤ S64x32768.size a)
    (inb1 : ∀ a, (![0, 16384] : Fin 2 → ℕ) a + S64x16384.size a ≤ S64x32768.size a) :
    M.view.read (Elt F) ((M.access (Rect.unit (s := S64x32768) ![0, 16384] S64x16384.size inb1)).write (Elt F)
      ((M.access (Rect.unit (s := S64x32768) ![0, 0] S64x16384.size inb0)).write (Elt F) f p Finset.univ) q Finset.univ) = beside p q := by
  funext y
  have h1 : (y 1).val < 32768 := (y 1).isLt
  unfold beside
  by_cases h : (y 1).val < 16384
  · rw [dif_pos h]
    refine (View.read_slice_write_of_not_mem (v := M.view) _ _ _ _ ?_).trans ?_
    · intro hm
      obtain ⟨z, -, hz⟩ := Finset.mem_map.mp hm
      have : 16384 + 1 * (z 1).val = (y 1).val := congrArg (fun y : S64x32768.Idx => (y 1).val) hz
      omega
    · generalize hz : ix2 (n0 := 64) (n1 := 16384) (y 0) ⟨(y 1).val, h⟩ = z
      have he : (Rect.unit (s := S64x32768) ![0, 0] S64x16384.size inb0).emb z = y := by
        subst hz
        funext a
        match a with
        | ⟨0, _⟩ => exact Fin.ext (by show 0 + 1 * (y 0).val = (y 0).val; omega)
        | ⟨1, _⟩ => exact Fin.ext (by show 0 + 1 * (y 1).val = (y 1).val; omega)
      clear hz
      subst he
      exact at_emb inb0 f p z
  · rw [dif_neg h]
    generalize hz : ix2 (n0 := 64) (n1 := 16384) (y 0) ⟨(y 1).val - 16384, _⟩ = z
    have he : (Rect.unit (s := S64x32768) ![0, 16384] S64x16384.size inb1).emb z = y := by
      subst hz
      funext a
      match a with
      | ⟨0, _⟩ => exact Fin.ext (by show 0 + 1 * (y 0).val = (y 0).val; omega)
      | ⟨1, _⟩ => exact Fin.ext (by show 16384 + 1 * ((y 1).val - 16384) = (y 1).val; omega)
    clear hz
    subst he
    exact at_emb inb1 _ q z

/-- One grid point of the second call. -/
theorem wp_body1 (c : Dev nD) (t : Fin cfg1.N) {Q : PUnit → sProp 𝕄} {R : sProp 𝕄} {X : S2x64x16384.Idx → Elt F .bf16} {D : S64x32768.Idx → Elt F .f32}
    (hk : iprop(R ∗ owns (c : Thread nD τ) (st1_0 t) fullShare X ∗ owns (c : Thread nD τ) (st1_1 t) fullShare (sm X)) ⊢ iprop(|={Set.univ}=> Q ⟨⟩)) :
    iprop(R ∗ owns (c : Thread nD τ) (st1_0 t) fullShare X ∗ owns (c : Thread nD τ) (st1_1 t) fullShare D)
      ⊢ wp frame (wpE (defs₀ (F := F)) 𝒱₀ c none) Set.univ (bodyAt1 (F := F) t) Q := by
  unfold bodyAt1
  simp only [cc1_sm_body_eq_skeleton]
  unfold cc1_sm_body_skel
  simp only [Prog.lift, Prog.bind_op, Prog.bind_ret, Prog.pure_eq_ret, Prog.bind_assoc]
  unfold owns at hk ⊢
  iintro ⟨HR, ⟨%f, %hf, Hx⟩, ⟨%g, -, Hy⟩⟩
  iapply (wp_load 𝒱₀ (c : Thread nD τ) none Set.univ (m := win1_0.stage (cfg1.slots t 0)) (S := (win1_0.stage (cfg1.slots t 0)).view.set) (q := fullShare) (f := f)
    (View.setOn_subset_set _ _)) $$ Hx
  iintro Hx
  iapply (wp_load 𝒱₀ (c : Thread nD τ) none Set.univ (m := win1_0.stage (cfg1.slots t 0)) (S := (win1_0.stage (cfg1.slots t 0)).view.set) (q := fullShare) (f := f)
    (View.setOn_subset_set _ _)) $$ Hx
  iintro Hx
  iapply (wp_load 𝒱₀ (c : Thread nD τ) none Set.univ (m := win1_1.stage (cfg1.slots t 1)) (S := (win1_1.stage (cfg1.slots t 1)).view.set) (q := fullShare) (f := g)
    (View.setOn_subset_set _ _)) $$ Hy
  iintro Hy
  iapply (wp_store 𝒱₀ (c : Thread nD τ) none Set.univ (m := win1_1.stage (cfg1.slots t 1))
    (r := Rect.unit (s := S64x32768) ![0, 0] S64x16384.size inb_S64x32768_S64x16384_0_0)
    (S := (win1_1.stage (cfg1.slots t 1)).view.set) (f := g) (by rw [View.setOn_univ]; exact View.set_slice_subset _ _)) $$ Hy
  iintro Hy
  iapply (wp_load 𝒱₀ (c : Thread nD τ) none Set.univ (m := win1_1.stage (cfg1.slots t 1)) (S := (win1_1.stage (cfg1.slots t 1)).view.set) (q := fullShare)
    (View.setOn_subset_set _ _)) $$ Hy
  iintro Hy
  iapply (wp_store 𝒱₀ (c : Thread nD τ) none Set.univ (m := win1_1.stage (cfg1.slots t 1))
    (r := Rect.unit (s := S64x32768) ![0, 16384] S64x16384.size inb_S64x32768_S64x16384_0_16384)
    (S := (win1_1.stage (cfg1.slots t 1)).view.set) (by rw [View.setOn_univ]; exact View.set_slice_subset _ _)) $$ Hy
  iintro Hy
  rw [wp_ret]
  iapply hk
  isplitl [HR]; · iexact HR
  isplitl [Hx]
  · iexists f; isplitr; · ipureintro; exact hf
    iexact Hx
  iexists _; isplitr; swap; · iexact Hy
  ipureintro
  refine (read_beside (M := st1_1 t) g _ _ _ _).trans ?_
  unfold sm
  rw [← read_half (M := st1_0 t) hf 0 rfl inb_S2x64x16384_S1x64x16384_0_0_0, ← read_half (M := st1_0 t) hf 1 rfl inb_S2x64x16384_S1x64x16384_1_0_0]
  rfl

end Cert.KernelIdeal.Run

end
-- ==== Proof.Dats.lean ====
/- The proof data of the two calls: what their windows hold around each grid point and what the body keeps from point to point. -/
module

public import proofs.«01_k».proof.Proof.Second
public import proofs.«01_k».proof.Proof.Close
public import proofs.«01_k».proof.Proof.Gen.KernelIdeal.Regions
public import Idealize.ShloMosaic.Lib.Pipeline.FrameBody
public import Idealize.ShloMosaic.Lib.Pipeline.RegionArrays

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ## What a device owes, in a pipeline's form -/

theorem owesAt_of {cfg : Cfg sig Λ₀} {c : Dev nD} (dat : Dat τ (Elt F) Unit ℕ UU ℕ cfg c) (t : Fin (cfg.N + 1))
    (hr : dat.recorded t = Set.univ) : (iprop(∃ W, owes (c : Thread nD τ) (dat.owed t) W) : sProp 𝕄) ⊢ dat.owesAt () t := by
  unfold Dat.owesAt Pipeline.owesWithin Dat.bound
  rw [hr]
  iintro ⟨%W, HO⟩
  iexists W
  isplitr
  · ipureintro; exact fun _ _ => Or.inl trivial
  iexact HO
theorem of_owesAt {cfg : Cfg sig Λ₀} {c : Dev nD} (dat : Dat τ (Elt F) Unit ℕ UU ℕ cfg c) (t : Fin (cfg.N + 1)) :
    (dat.owesAt () t : sProp 𝕄) ⊢ iprop(∃ W, owes (c : Thread nD τ) (dat.owed t) W) := by
  unfold Dat.owesAt Pipeline.owesWithin
  iintro ⟨%W, -, HO⟩
  iexists W
  iexact HO

/-! ## The first call -/

/-- The second call's staging buffers, at any contents. -/
def spare (c : Dev nD) : sProp 𝕄 :=
  iprop((∃ f, ((c : Thread nD τ).loc cc1_stg0_0) ↦{fullShare} f) ∗ (∃ f, ((c : Thread nD τ).loc cc1_stg0_1) ↦{fullShare} f)
    ∗ (∃ f, ((c : Thread nD τ).loc cc1_stg1_0) ↦{fullShare} f) ∗ ∃ f, ((c : Thread nD τ).loc cc1_stg1_1) ↦{fullShare} f)

/-- What the body keeps before point `n`: the state of the exchange, or, after the last point, what it leaves. -/
def keep (c : Dev nD) (n : ℕ) : sProp 𝕄 :=
  if n < 16 then iprop(∃ K, know m K ∗ levAts L lv ∗ St m c n (n - 4) 0) else Done m c

def dat0 (c : Dev nD) : Dat τ (Elt F) Unit ℕ UU ℕ cfg0 c where
  A w := m ((c : Thread nD τ).loc (Pipeline.arrRef spec0 w))
  after w t := match w with
    | ⟨0, _⟩ => xblk m c t
    | ⟨1, _⟩ => wblk m c t
  Φ t := iprop(keep m c t.val ∗ spare c)
  q _ := fullShare
  owed t := dues c t.val

theorem before0_0 (c : Dev nD) (t : Fin cfg0.N) (d) : (dat0 m c).before 0 t d = xblk m c t :=
  ((dat0 m c).before_in_eq_fetched 0 rfl (fun _ => rfl) (fun _ _ _ => rfl) (fun _ => rfl) t d).trans rfl
theorem before0_1 (c : Dev nD) (t : Fin cfg0.N) (d) : (dat0 m c).before 1 t d = wblk m c t := by
  unfold Dat.before; rw [if_pos (fetch0_1 t)]; unfold Dat.fetched Dat.blockOf wblk; dsimp only [dat0]; rfl
theorem after0_0 (c : Dev nD) (t : Fin cfg0.N) : (dat0 m c).after 0 t = xblk m c t := by dsimp only [dat0]
theorem after0_1 (c : Dev nD) (t : Fin cfg0.N) : (dat0 m c).after 1 t = wblk m c t := by dsimp only [dat0]

theorem defs_0 : (defs₀ (F := F)) .tc cfg0.body
    = fun a => cc0_fused_body (grid0.coords a.1) (win0_0.stage (a.2 0)) (hstage0_0 ((a.2 0).cast nbuf0_0)) (win0_1.stage (a.2 1)) (hstage0_1 ((a.2 1).cast nbuf0_1))
        (Memref.whole main_v1) (Memref.isWhole_whole _) (Memref.whole cc0_scratch0) (Memref.isWhole_whole _) cc0_scratch1 cc0_scratch2 cc0_scratch3 := rfl
theorem prog_0 (t : Fin cfg0.N) : (defs₀ (F := F)) .tc cfg0.body (cfg0.bodyArgs t (cfg0.slots t)) = bodyAt0 t := (congrFun defs_0 _).trans rfl

/-- The state before a point, with what is owed. -/
theorem ctx_of_keep (c : Dev nD) (n : ℕ) (hn : n < 16) :
    iprop(keep m c n ∗ ∃ W, owes (c : Thread nD τ) (dues c n) W) ⊢ (iprop(∃ K, Ctx m K c n (n - 4) 0) : sProp 𝕄) := by
  unfold keep Ctx
  rw [if_pos hn]
  iintro ⟨⟨%K, Hk, Hl, HS⟩, HO⟩
  iexists K
  isplitl [Hk]; · iexact Hk
  isplitl [Hl]; · iexact Hl
  isplitl [HS]; · iexact HS
  iexact HO

/-- What a point leaves is the state before the next one, or the end. -/
theorem keep_of_after (K : GSem nD τ sig → ℕ) (c : Dev nD) (t : Fin cfg0.N) :
    (After m K c t : sProp 𝕄) ⊢ iprop(|={Set.univ}=> (keep m c (t.val + 1) ∗ ∃ W, owes (c : Thread nD τ) (dues c (t.val + 1)) W)) := by
  have hN : t.val < 16 := (ch t).isLt
  unfold After keep Ctx
  by_cases h : t.val = 15
  · rw [if_pos h, if_neg (by omega : ¬ t.val + 1 < 16), show t.val + 1 = 16 by omega]
    iintro ⟨Hk, -, HS, HO⟩
    imod (finish m K c) $$ [Hk HS] with HD
    · isplitl [Hk] <;> iassumption
    imodintro
    isplitl [HD] <;> iassumption
  · rw [if_neg h, if_pos (by omega : t.val + 1 < 16)]
    iintro ⟨Hk, Hl, HS, HO⟩
    imodintro
    isplitr [HO]; swap; · iexact HO
    iexists K
    isplitl [Hk]; · iexact Hk
    isplitl [Hl]; · iexact Hl
    iexact HS

set_option backward.isDefEq.respectTransparency.types false in
theorem body_0 (c : Dev nD) : BodyObligation (dat0 (F := F) m c) (defs₀ (F := F)) 𝒱₀ () Set.univ := fun t => by
  have hN : t.val < 16 := (ch t).isLt
  rw [bigSep_W0, bigSep_W0]
  dsimp only
  simp only [before0_0, before0_1, after0_0, after0_1]
  rw [show (dat0 m c).Φ t.castSucc = iprop(keep m c t.val ∗ spare c) from rfl, show (dat0 m c).Φ t.succ = iprop(keep m c (t.val + 1) ∗ spare c) from rfl]
  iintro ⟨⟨Hk, Hsp⟩, HO, ⟨%d0, H0⟩, ⟨%d1, H1⟩⟩
  ihave HO := (of_owesAt (dat0 m c) t.castSucc) $$ HO
  ihave HC := (ctx_of_keep m c t.val hN) $$ [Hk HO]
  · isplitl [Hk]; · iexact Hk
    iexact HO
  icases HC with ⟨%K, HC⟩
  sl_rw [prog_0 t]
  iapply (wp_body m K c t (R := spare c) (by
    iintro ⟨HA, ⟨Hsp, H0⟩, H1⟩
    imod (keep_of_after m K c t) $$ HA with ⟨Hk, HO⟩
    imodintro
    isplitl [Hk Hsp]
    · isplitl [Hk] <;> iassumption
    isplitl [HO]
    · iapply (owesAt_of (dat0 m c) t.succ rfl); iexact HO
    isplitl [H0] <;> iassumption))
  isplitl [HC]; · iexact HC
  isplitl [Hsp H0]
  · isplitl [Hsp] <;> iassumption
  iexact H1

/-! ## The second call -/

/-- The block of gathered logits point `t` reads. -/
def gblk (c : Dev nD) (t : Fin cfg1.N) : ((cfg1.win 0).xblock (cfg1.grid.coords t)).Idx → Elt F (cfg1.win 0).elt :=
  ((cfg1.win 0).blk t).view.read (Elt F) (G m c)

/-- The first call's buffers but those of pipeline 1, at any contents. -/
def spare1 (c : Dev nD) : sProp 𝕄 := Pipeline.scopedRest spec1 c

def dat1 (c : Dev nD) : Dat τ (Elt F) Unit ℕ UU ℕ cfg1 c where
  A w := match w with
    | ⟨0, _⟩ => G m c
    | ⟨1, _⟩ => m ((c : Thread nD τ).loc main_v2)
  after w t := match w with
    | ⟨0, _⟩ => gblk m c t
    | ⟨1, _⟩ => sm (gblk m c t)
  Φ _ := spare1 c
  q _ := fullShare
  owed _ := 0

theorem before1_0 (c : Dev nD) (t : Fin cfg1.N) (d) : (dat1 m c).before 0 t d = gblk m c t := by
  unfold Dat.before; rw [if_pos (fetch1_0 t)]; unfold Dat.fetched Dat.blockOf gblk; dsimp only [dat1]; rfl
theorem after1_0 (c : Dev nD) (t : Fin cfg1.N) : (dat1 m c).after 0 t = gblk m c t := by dsimp only [dat1]
theorem after1_1 (c : Dev nD) (t : Fin cfg1.N) : (dat1 m c).after 1 t = sm (gblk m c t) := by dsimp only [dat1]

theorem defs_1 : (defs₀ (F := F)) .tc cfg1.body
    = fun a => cc1_sm_body (grid1.coords a.1) (win1_0.stage (a.2 0)) (hstage1_0 ((a.2 0).cast nbuf1_0)) (win1_1.stage (a.2 1)) (hstage1_1 ((a.2 1).cast nbuf1_1)) := rfl
theorem prog_1 (t : Fin cfg1.N) : (defs₀ (F := F)) .tc cfg1.body (cfg1.bodyArgs t (cfg1.slots t)) = bodyAt1 t := (congrFun defs_1 _).trans rfl

set_option backward.isDefEq.respectTransparency.types false in
theorem body_1 (c : Dev nD) : BodyObligation (dat1 (F := F) m c) (defs₀ (F := F)) 𝒱₀ () Set.univ := fun t => by
  rw [bigSep_W1, bigSep_W1]
  dsimp only
  simp only [before1_0, after1_0, after1_1]
  rw [show (dat1 m c).Φ t.castSucc = spare1 c from rfl, show (dat1 m c).Φ t.succ = spare1 c from rfl,
    show (dat1 m c).owesAt () t.succ = (dat1 m c).owesAt () t.castSucc from rfl]
  iintro ⟨Hsp, HO, ⟨%d0, H0⟩, ⟨%d1, H1⟩⟩
  sl_rw [prog_1 t]
  iapply (wp_body1 c t (R := iprop(spare1 c ∗ (dat1 m c).owesAt () t.castSucc)) (by
    iintro ⟨⟨Hsp, HO⟩, H0, H1⟩
    imodintro
    isplitl [Hsp]; · iexact Hsp
    isplitl [HO]; · iexact HO
    isplitl [H0] <;> iassumption))
  isplitl [Hsp HO]
  · isplitl [Hsp] <;> iassumption
  isplitl [H0]; · iexact H0
  iexact H1

/-- The two calls' proof data. -/
def pdats : (p : Fin 2) → (c : Dev nD) → Dat τ (Elt F) Unit ℕ UU ℕ (Pipeline.pin (pcfgs (F := F)) adm p) c
  | 0 => dat0 m
  | 1 => dat1 m

end Cert.KernelIdeal.Run

end
-- ==== Proof.Deal.lean ====
/- The launch of the exchange: all its semaphores brought to life on all devices at once, and every device dealt its share. -/
module

public import proofs.«01_k».proof.Proof.Dats

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-- What each device owes at launch: its partner's sixteen receive credits. -/
abbrev O₀ (c : Dev nD) : CellTallies nD τ sig Unit := dues c 0

/-- The right to pay each cell's one duty. -/
def payE : GSem nD τ sig ↪ GSem nD τ sig × ℕ × Unit := ⟨fun g => (g, 0, ()), fun _ _ h => congrArg Prod.fst h⟩
def pays : Finset (GSem nD τ sig × ℕ × Unit) := ownCells.map payE

/-- A group over the exchange's cells, device by device and semaphore by semaphore. -/
theorem over_cells (Φ : GSem nD τ sig → sProp 𝕄) :
    bigSep ownCells Φ = bigSep Finset.univ fun c : Dev nD =>
      iprop((bigSep Finset.univ fun j : Fin 16 => Φ (copyC c j)) ∗ (bigSep Finset.univ fun j : Fin 16 => Φ (sendC c j))
        ∗ (bigSep Finset.univ fun j : Fin 16 => Φ (recvC c j))) := by
  unfold ownCells
  rw [bigSep_map, bigSep_univ_prod]
  exact bigSep_congr fun c _ => own_split c Φ

/-- A group over the devices is one over their partners. -/
theorem over_partners (Φ : Dev nD → sProp 𝕄) : bigSep Finset.univ Φ = bigSep Finset.univ fun c => Φ (pr c) := bigSep_univ_equiv swap Φ

/-- The launch credit of a device: one credit on each of its receive cells. -/
theorem cred_deal (c : Dev nD) : (Pipeline.launchCred O₀ c : sProp 𝕄) ⊢ bigSep Finset.univ fun j : Fin 16 => cred (tallyAt (recvC c j) () N) := by
  have e : (O₀ : Dev nD → CellTallies nD τ sig Unit) = fun d => ∑ j ∈ (Finset.univ : Finset (Fin 16)), tallyAt (recvC (pr d) j) () N := by
    funext d
    unfold O₀ dues
    rw [Finset.filter_true_of_mem fun _ _ => Nat.zero_le _]
  rw [e, Pipeline.launchCred_sum Finset.univ (fun (j : Fin 16) (d : Dev nD) => tallyAt (recvC (pr d) j) () N) c]
  exact bigSep_mono fun j _ => Pipeline.launchCred_tallyAt (.dma (recvS j)) pr pr pr_pr pr_pr () N c

/-- What a device enters the first call with, of the exchange. -/
def enter (c : Dev nD) : sProp 𝕄 :=
  iprop(∃ K, know m K ∗ (bigSep Finset.univ fun j : Fin 16 => todo1 c j) ∗ bigSep Finset.univ fun j : Fin 16 => wait1 c j)

/-- One device's share, gathered chunk by chunk. -/
theorem gather (c : Dev nD) (f : Buf (Elt F) ((c : Thread nD τ).loc main_v1)) (f' : Buf (Elt F) ((pr c : Thread nD τ).loc main_v1)) :
    iprop((bigSep Finset.univ fun j : Fin 16 => chunk c (row c) j f) ∗ (bigSep Finset.univ fun j : Fin 16 => chunk (pr c) (row c) j f')
      ∗ ((bigSep Finset.univ fun j : Fin 16 => dutyTok ER (copyC c j) 0 ()) ∗ (bigSep Finset.univ fun j : Fin 16 => dutyTok ER (sendC c j) 0 ())
        ∗ (bigSep Finset.univ fun j : Fin 16 => dutyTok ER (recvC (pr c) j) 0 ()))
      ∗ ((bigSep Finset.univ fun j : Fin 16 => atPos ER (copyC c j) 0 ∅ 0) ∗ bigSep Finset.univ fun j : Fin 16 => atPos ER (sendC c j) 0 ∅ 0))
    ⊢ (bigSep Finset.univ fun j : Fin 16 => todo1 c j : sProp 𝕄) := by
  simp only [← bigSep_sep']
  refine bigSep_mono fun j _ => ?_
  show (_ : sProp 𝕄) ⊢ todo1 c j
  unfold todo1
  iintro ⟨H1, H2, ⟨H3, H4, H5⟩, H6, H7⟩
  isplitl [H1]; · iexists f; iexact H1
  isplitl [H2]; · iexists f'; iexact H2
  isplitl [H3]; · iexact H3
  isplitl [H4]; · iexact H4
  isplitl [H5]; · iexact H5
  isplitl [H6] <;> iassumption

/-- All devices' shares: the result buffers, the exchange's semaphores at zero, the launch credits and the exchange's ghost state. -/
theorem deal :
    iprop((bigSep Finset.univ fun c : Dev nD => ((c : Thread nD τ).loc main_v1) ↦{fullShare} m ((c : Thread nD τ).loc main_v1))
      ∗ (bigSep Finset.univ fun c : Dev nD => Pipeline.ownSems0 osem0 c) ∗ (bigSep Finset.univ fun c : Dev nD => Pipeline.launchCred O₀ c)
      ∗ BI.own (ER (launchOf ownCells ∅ pays)))
    ⊢ (iprop(|={Set.univ}=> bigSep Finset.univ fun c : Dev nD => enter m c) : sProp 𝕄) := by
  have hsem : (bigSep Finset.univ fun c : Dev nD => Pipeline.ownSems0 osem0 c : sProp 𝕄) = bigSep ownCells fun g => semVal g 0 := by
    unfold ownCells Pipeline.ownSems0
    rw [bigSep_map, bigSep_univ_prod]
    exact bigSep_congr fun c _ => bigSep_congr fun k _ => rfl
  have hcr : (bigSep Finset.univ fun c : Dev nD => Pipeline.launchCred O₀ c : sProp 𝕄)
      ⊢ bigSep Finset.univ fun c : Dev nD => bigSep Finset.univ fun j : Fin 16 => cred (tallyAt (recvC c j) () N) :=
    bigSep_mono fun c _ => cred_deal c
  have hpay : (bigSep pays (fun x => dutyTok ER x.1 x.2.1 x.2.2) : sProp 𝕄) = bigSep ownCells fun g => dutyTok ER g 0 () := by
    unfold pays; rw [bigSep_map]; exact bigSep_congr fun _ _ => rfl
  have hv1 : (bigSep Finset.univ fun c : Dev nD => (((c : Thread nD τ).loc main_v1) ↦{fullShare} m ((c : Thread nD τ).loc main_v1) : sProp 𝕄))
      = iprop((bigSep Finset.univ fun c : Dev nD => bigSep Finset.univ fun j : Fin 16 => chunk c (row c) j (m ((c : Thread nD τ).loc main_v1)))
        ∗ bigSep Finset.univ fun c : Dev nD => bigSep Finset.univ fun j : Fin 16 => chunk (pr c) (row c) j (m ((pr c : Thread nD τ).loc main_v1))) := by
    rw [bigSep_congr fun c _ => v1_split c (m ((c : Thread nD τ).loc main_v1)), bigSep_sep',
      over_partners fun c => bigSep Finset.univ fun j : Fin 16 => chunk c (row (pr c)) j (m ((c : Thread nD τ).loc main_v1))]
    have e : (bigSep Finset.univ fun c : Dev nD => bigSep Finset.univ fun j : Fin 16 => chunk (pr c) (row (pr (pr c))) j (m ((pr c : Thread nD τ).loc main_v1)))
        = bigSep Finset.univ fun c : Dev nD => bigSep Finset.univ fun j : Fin 16 => chunk (pr c) (row c) j (m ((pr c : Thread nD τ).loc main_v1)) :=
      bigSep_congr fun c _ => by rw [pr_pr]
    rw [e]
  have hrecv : (bigSep Finset.univ fun c : Dev nD => bigSep Finset.univ fun j : Fin 16 => (dutyTok ER (recvC c j) 0 () : sProp 𝕄))
      = bigSep Finset.univ fun c : Dev nD => bigSep Finset.univ fun j : Fin 16 => dutyTok ER (recvC (pr c) j) 0 () :=
    over_partners fun c => bigSep Finset.univ fun j : Fin 16 => (dutyTok ER (recvC c j) 0 () : sProp 𝕄)
  rw [hsem, hv1]
  iintro ⟨⟨Hv, Hv'⟩, Hs, Hc, Hu⟩
  ihave Hc := hcr $$ Hc
  imod (Rounds.fund_launch ER (rd m) (Finset.disjoint_empty_right ownCells) (fun g hg => absurd hg (Finset.notMem_empty g)) pays) $$ [Hs Hu] with ⟨%K, -, HI, #Hr, Ha, -, Ht⟩
  · isplitl [Hs] <;> iassumption
  have hts : (bigSep pays (fun x => dutyTok ER x.1 x.2.1 x.2.2) : sProp 𝕄)
      = iprop((bigSep Finset.univ fun c : Dev nD => bigSep Finset.univ fun j : Fin 16 => dutyTok ER (copyC c j) 0 ())
        ∗ (bigSep Finset.univ fun c : Dev nD => bigSep Finset.univ fun j : Fin 16 => dutyTok ER (sendC c j) 0 ())
        ∗ bigSep Finset.univ fun c : Dev nD => bigSep Finset.univ fun j : Fin 16 => dutyTok ER (recvC (pr c) j) 0 ()) := by
    rw [hpay, over_cells fun g => (dutyTok ER g 0 () : sProp 𝕄), bigSep_sep', bigSep_sep', hrecv]
  have hat : (bigSep ownCells (fun g => atPos ER g 0 ∅ 0) : sProp 𝕄)
      = iprop((bigSep Finset.univ fun c : Dev nD => bigSep Finset.univ fun j : Fin 16 => atPos ER (copyC c j) 0 ∅ 0)
        ∗ (bigSep Finset.univ fun c : Dev nD => bigSep Finset.univ fun j : Fin 16 => atPos ER (sendC c j) 0 ∅ 0)
        ∗ bigSep Finset.univ fun c : Dev nD => bigSep Finset.univ fun j : Fin 16 => atPos ER (recvC c j) 0 ∅ 0) := by
    rw [over_cells fun g => (atPos ER g 0 ∅ 0 : sProp 𝕄), bigSep_sep', bigSep_sep']
  have hin : (bigSep (ownCells ∪ ∅) (fun g => cellInv ER (rd (F := F) m) (K g) g) : sProp 𝕄) = bigSep ownCells fun g => cellInv ER (rd m) (K g) g := by
    rw [Finset.union_empty]
  ihave Ht := (Entails.of_eq hts) $$ Ht
  ihave Ha := (Entails.of_eq hat) $$ Ha
  ihave HI := (Entails.of_eq hin) $$ HI
  icases HI with #HI
  icases Ha with ⟨Ha1, Ha2, Ha3⟩
  icases Ht with ⟨Ht1, Ht2, Ht3⟩
  imodintro
  have hall : iprop(know m K ∗ ((bigSep Finset.univ fun c : Dev nD =>
        iprop((bigSep Finset.univ fun j : Fin 16 => chunk c (row c) j (m ((c : Thread nD τ).loc main_v1)))
          ∗ (bigSep Finset.univ fun j : Fin 16 => chunk (pr c) (row c) j (m ((pr c : Thread nD τ).loc main_v1)))
          ∗ ((bigSep Finset.univ fun j : Fin 16 => dutyTok ER (copyC c j) 0 ()) ∗ (bigSep Finset.univ fun j : Fin 16 => dutyTok ER (sendC c j) 0 ())
            ∗ (bigSep Finset.univ fun j : Fin 16 => dutyTok ER (recvC (pr c) j) 0 ()))
          ∗ ((bigSep Finset.univ fun j : Fin 16 => atPos ER (copyC c j) 0 ∅ 0) ∗ bigSep Finset.univ fun j : Fin 16 => atPos ER (sendC c j) 0 ∅ 0)
          ∗ (bigSep Finset.univ fun j : Fin 16 => atPos ER (recvC c j) 0 ∅ 0) ∗ bigSep Finset.univ fun j : Fin 16 => cred (tallyAt (recvC c j) () N)))))
      ⊢ (bigSep Finset.univ fun c : Dev nD => enter m c : sProp 𝕄) :=
    bigSep_with_persistent fun c _ => show (_ : sProp 𝕄) ⊢ enter m c by
      unfold enter
      iintro ⟨Hk, H1, H2, H3, H4, H5, H6⟩
      iexists K
      isplitl [Hk]; · iexact Hk
      isplitl [H1 H2 H3 H4]
      · iapply (gather c _ _)
        isplitl [H1]; · iexact H1
        isplitl [H2]; · iexact H2
        isplitl [H3] <;> iassumption
      unfold wait1
      rw [bigSep_sep']
      isplitl [H5] <;> iassumption
  iapply hall
  isplitr
  · unfold know
    isplitr
    · iexact HI
    · iexact Hr
  simp only [bigSep_sep']
  isplitl [Hv]; · iexact Hv
  isplitl [Hv']; · iexact Hv'
  isplitl [Ht1 Ht2 Ht3]
  · isplitl [Ht1]; · iexact Ht1
    isplitl [Ht2] <;> iassumption
  isplitl [Ha1 Ha2]
  · isplitl [Ha1] <;> iassumption
  isplitl [Ha3] <;> iassumption

end Cert.KernelIdeal.Run

end
-- ==== Proof.Calls.lean ====
/- The two calls of a device: what it holds before each, and what it holds after. -/
module

public import proofs.«01_k».proof.Proof.Deal

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation RegionSeg)
open Cert.KernelIdeal.Gen

variable {F : FTy → Type} [FloatOps F]

local notation "𝕄" => MT nD τ sig Unit (Elt F) ℕ UU ℕ

variable (m : (ℓ : Loc nD τ sig) → Buf (Elt F) ℓ)

abbrev pin2 : (p : Fin 2) → Cfg sig Λ₀ := Pipeline.pin (pcfgs (F := F)) adm

theorem pin_inj : Function.Injective (Pipeline.cellOf (nD := nD) (τ := τ) (pin2 (F := F))) := cellOf_inj

/-- The exchange's semaphores are scoped, distinct, and none of them stages a window of the first call. -/
theorem own0 : Pipeline.OwnSemFacts ((pin2 (F := F) 0).spec) osem0 where
  isScoped _ := regions_no_unscoped _
  inj := osem0_inj
  disj k w s h := by
    have hs : ∀ (w : Fin 2) (s : Fin (spec0 w).nbuf), ((spec0 w).sem s).val < 3 := by decide
    have h' : ((spec0 w).sem s).val = 3 + k.val := by
      have : (⟨3 + k.val, by have h : k.val < 48 := k.isLt; show _ < 55; omega⟩ : DmaSem sig) = (spec0 w).sem s := by injection h
      rw [← this]
    have := hs w s
    omega

/-- The two arguments, as launched. -/
def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))

/-- The semaphores the first call does not touch. -/
abbrev idle0 (c : Dev nD) : sProp 𝕄 := Pipeline.idleSems0 (pin2 (F := F)) pin_inj 0 own0 c

theorem sems_eq (c : Dev nD) : (scopedSems0 (c : Thread nD τ) : sProp 𝕄)
    = iprop((Pipeline.cellsSems0 (pin2 (F := F)) 0 c ∗ Pipeline.ownSems0 osem0 c) ∗ idle0 c) :=
  Pipeline.scopedSems0_split (pin2 (F := F)) pin_inj 0 winFacts0.to₀ own0 c

theorem bufs_eq (c : Dev nD) : (scopedBufs (c : Thread nD τ) : sProp 𝕄)
    = iprop(Dat.staging (pin2 (F := F) 0) c ∗ Pipeline.scopedRest spec0 c) :=
  Pipeline.scopedBufs_split (pin2 (F := F)) 0 winFacts0.to₀.stage_scoped winFacts0.to₀.stage_inj stage_whole0 c

/-- The first call's arrays are the two arguments, before and after. -/
theorem arrays0 (c : Dev nD) (n : ℕ) : ((pdats m 0 c).arrays ((pdats m 0 c).arrAt · n) : sProp 𝕄) = args m c := by
  have e := Pipeline.arrays_eq (pin2 (F := F)) (pdats m) 0 c arr_whole0 (fun w => by
    show (if _ then _ else _) = _
    split <;> rfl) ((pdats m 0 c).arrAt · n)
  rw [e]
  have e2 := bigSep_W0 (fun w => (((c : Thread nD τ).loc (Pipeline.arrRef spec0 w)) ↦{fullShare} (dat0 m c).arrAt w n : sProp 𝕄))
  rw [(dat0 m c).arrAt_in 0 rfl n, (dat0 m c).arrAt_in 1 rfl n] at e2
  exact e2

theorem todo_0 : todo 0 = Finset.univ := by decide
theorem fl_0 : fl 0 0 = ∅ := by decide
theorem dn_0 : dn 0 = ∅ := by decide
theorem free_0 : free 0 0 = Finset.univ := by decide

/-- Before the first point. -/
theorem keep_enter (c : Dev nD) :
    iprop((enter m c ∗ levAts L lv) ∗ Pipeline.scopedRest spec0 c) ⊢ (iprop(keep m c 0 ∗ spare c) : sProp 𝕄) := by
  rw [scopedRest0_eq]
  unfold enter keep St spare
  rw [if_pos (by decide), todo_0, fl_0, dn_0, free_0, bigSep_empty, bigSep_empty, bigSep_empty]
  iintro ⟨⟨⟨%K, Hk, Ht, Hw⟩, Hl⟩, Hscr, Hsp⟩
  isplitr [Hsp]; swap; · iexact Hsp
  iexists K
  isplitl [Hk]; · iexact Hk
  isplitl [Hl]; · iexact Hl
  isplitl [Ht]; · iexact Ht
  isplitr; · iempintro
  isplitr; · iempintro
  isplitl [Hscr]; · iapply (scr_split c); iexact Hscr
  isplitl [Hw]; · iexact Hw
  iempintro

/-- After the last point. -/
theorem keep_leave (c : Dev nD) :
    (iprop(keep m c 16 ∗ spare c) : sProp 𝕄)
      ⊢ iprop((((c : Thread nD τ).loc main_v1) ↦{fullShare} G m c) ∗ Pipeline.ownSems0 osem0 c ∗ Pipeline.scopedRest spec0 c) := by
  rw [scopedRest0_eq]
  unfold keep Done spare Pipeline.ownSems0
  rw [if_neg (by decide)]
  iintro ⟨⟨Hv, Hs, Hscr⟩, Hsp⟩
  isplitl [Hv]; · iexact Hv
  isplitl [Hs]; · iexact Hs
  isplitl [Hscr] <;> iassumption

theorem stage_sems0 : ∀ (w : Fin 2) (s : Fin (spec0 w).nbuf), ((spec0 w).sem s).val < 35 := by decide

theorem dues_16 (c : Dev nD) : dues c 16 = 0 := by
  unfold dues
  rw [Finset.filter_false_of_mem fun j _ => by have := j.isLt; omega, Finset.sum_empty]

/-- The first call: the exchange is run, the device's result buffer is whole, and it owes nothing any more. -/
theorem wp_first (c : Dev nD) {α : Type}
    (k : PUnit → Prog (TpuEff nD τ sig (Elt F) (Pipeline.Sig Λ₀ (Fin 2) fun p => (pcfgs (F := F) p).Adm) .tc) α) (Q : α → sProp 𝕄) :
    iprop((iprop(boundary (c : Thread nD τ) ∗ args m c ∗ (((c : Thread nD τ).loc main_v1) ↦{fullShare} G m c)
          ∗ ∃ W, owes (c : Thread nD τ) (0 : CellTallies nD τ sig Unit) W)
        -∗ wp frame (wpE (defs (F := F)) (Variants.lift 𝒱₀) (c : Thread nD τ) none) Set.univ (k ⟨⟩) Q)
      ∗ scopedBufs (c : Thread nD τ) ∗ Pipeline.cellsSems0 (pin2 (F := F)) 0 c ∗ idle0 c ∗ opIdle (c : Thread nD τ)
      ∗ args m c ∗ (∃ W, owes (c : Thread nD τ) (O₀ c) W) ∗ enter m c ∗ levAts L lv
      ∗ Pipeline.cellsGhost (pin2 (F := F)) EP 0 c ∗ Pipeline.toksInit (pin2 (F := F)) EP 0 c)
    ⊢ wp frame (wpE (defs (F := F)) (Variants.lift 𝒱₀) (c : Thread nD τ) none) Set.univ (.op (.customCall (Pipeline.entry 0) ()) k) Q := by
  have hw : (levAts L lv : sProp 𝕄) ⊢ Pipeline.cellsWaits (pin2 (F := F)) (pdats m) () 0 c :=
    Pipeline.cellsWaits_intro (pin2 (F := F)) (pdats m) () 0 c fun w s t => mayWait c _ t.val (Or.inl (stage_sems0 w s))
  have hin : iprop((enter m c ∗ levAts L lv) ∗ Pipeline.prefHeld (pcfgs (F := F) 0).pre c (fun _ => fullShare) (adm (F := F) 0).1 ∗ Pipeline.scopedRest spec0 c)
      ⊢ ((pdats m 0 c).Φ 0 : sProp 𝕄) := by
    rw [Pipeline.prefHeld_of_none _ rfl]
    show (_ : sProp 𝕄) ⊢ iprop(keep m c 0 ∗ spare c)
    iintro ⟨H, -, Hr⟩
    iapply (keep_enter m c)
    isplitl [H] <;> iassumption
  have hout : iprop((pdats m 0 c).Φ (Fin.last (pin2 (F := F) 0).N) ∗ Pipeline.cellsSems0 (pin2 (F := F)) 0 c
        ∗ Dat.staging (pin2 (F := F) 0) c ∗ idle0 c)
      ⊢ (iprop((((c : Thread nD τ).loc main_v1) ↦{fullShare} G m c) ∗ scopedSems0 (c : Thread nD τ) ∗ scopedBufs (c : Thread nD τ)) : sProp 𝕄) := by
    rw [sems_eq, bufs_eq, show ((pdats m 0 c).Φ (Fin.last (pin2 (F := F) 0).N) : sProp 𝕄) = iprop(keep m c 16 ∗ spare c) from rfl]
    iintro ⟨HΦ, Hc, Hst, Hid⟩
    ihave H := (keep_leave m c) $$ HΦ
    icases H with ⟨Hv, Hos, Hr⟩
    isplitl [Hv]; · iexact Hv
    isplitl [Hc Hos Hid]
    · isplitl [Hc Hos]
      · isplitl [Hc] <;> iassumption
      iexact Hid
    isplitl [Hst] <;> iassumption
  iintro ⟨Hk, Hsc, Hcells, Hidle, Hidl, Hargs, HO, Hen, #Hla, Hg, Ht⟩
  ihave Hw := hw $$ Hla
  iapply (fupd_wp frame (wpE (defs (F := F)) (Variants.lift 𝒱₀) (c : Thread nD τ) none) Set.univ _ _)
  imod (Pipeline.cellsInit_alloc (pin2 (F := F)) (pdats m) EP pin_inj 0 c) $$ [Hcells Hg] with ⟨%κ, -, Hinit⟩
  · isplitl [Hcells] <;> iassumption
  imodintro
  iapply (Pipeline.wp_customCall_entry_frame (pcfgs (F := F)) adm (pdats m) () EP κ pin_inj 0 defs₀ 𝒱₀ (fun _ => fullShare) c Set.univ
      (fun _ _ => Set.mem_univ _) (body_0 m c).loose block_pos0 none (fun u hu => absurd hu (by simp)) (X := iprop(enter m c ∗ levAts L lv))
      (Y := iprop(((c : Thread nD τ).loc main_v1) ↦{fullShare} G m c)) (R := Pipeline.scopedRest spec0 c)
      (I := idle0 c) (Entails.of_eq (bufs_eq c)) hin hout (k := k) (Q := Q)) $$ [Hargs HO Hw Hinit Ht Hen Hidle Hsc]
  · isplitl [Hargs HO Hw Hinit Ht]
    · unfold Pipeline.EntryPre Pipeline.PerCore.EntryPre
      isplitl [Hargs]
      · iapply (Entails.of_eq (arrays0 m c 0).symm); iexact Hargs
      isplitl [HO]
      · iapply (owesAt_of (pdats m 0 c) 0 rfl); iexact HO
      isplitl [Hw]; · iexact Hw
      isplitl [Hinit] <;> iassumption
    isplitr
    · iapply (Entails.of_eq (Pipeline.prefHeld_of_none _ rfl c _ _).symm); iempintro
    isplitl [Hen]
    · isplitl [Hen]; · iexact Hen
      iexact Hla
    isplitl [Hidle] <;> iassumption
  iintro ⟨Hpost, HY, Hss, Hsc⟩
  unfold Pipeline.EntryPost Pipeline.PerCore.EntryPost
  icases Hpost with ⟨Ha, HO⟩
  ihave Ha := (Entails.of_eq (arrays0 m c _)) $$ Ha
  ihave HO := (of_owesAt (pdats m 0 c) _) $$ HO
  ihave Hbd := (show iprop(scopedBufs (c : Thread nD τ) ∗ scopedSems0 (c : Thread nD τ) ∗ opIdle (c : Thread nD τ))
      ⊢ (boundary (c : Thread nD τ) : sProp 𝕄) from BI.Entails.refl _) $$ [Hsc Hss Hidl]
  · isplitl [Hsc]; · iexact Hsc
    isplitl [Hss] <;> iassumption
  have eo : (iprop(∃ W, owes (c : Thread nD τ) ((pdats m 0 c).owed (Fin.last (pin2 (F := F) 0).N)) W) : sProp 𝕄)
      ⊢ iprop(∃ W, owes (c : Thread nD τ) (0 : CellTallies nD τ sig Unit) W) :=
    Entails.of_eq (congrArg (fun D => iprop(∃ W, owes (c : Thread nD τ) D W)) (dues_16 c))
  ihave HO := eo $$ HO
  iapply Hk
  isplitl [Hbd]; · iexact Hbd
  isplitl [Ha]; · iexact Ha
  isplitl [HY]; · iexact HY
  iexact HO

/-! ## The second call -/

/-- The second call from its two arrays; the arguments wait beside it. -/
def second : RegionSeg (pcfgs (F := F)) adm (pdats m) () defs₀ 𝒱₀ L lv 1 :=
  RegionSeg.ofArrays (pcfgs (F := F)) adm (pdats m) () defs₀ 𝒱₀ L lv 1 (fun _ => 0) (fun _ => iprop(emp)) (fun _ => iprop(emp))
    launch1.to₀.toP rfl (fun c => (body_1 m c).loose) (fun _ _ => rfl) (fun _ => rfl)
    (fun c => show iprop(Pipeline.scopedRest spec1 c ∗ emp) ⊢ (Pipeline.scopedRest spec1 c : sProp 𝕄) from by iintro ⟨H, -⟩; iexact H)
    (fun c => show (Pipeline.scopedRest spec1 c : sProp 𝕄) ⊢ iprop(Pipeline.scopedRest spec1 c ∗ emp) from by
      iintro H; isplitl [H]; · iexact H
      iempintro)
    (fun _ => 1)
    { hι := fun c w s => by rw [L_tc]; exact Finset.mem_singleton_self _
      hιb := fun c w s => by unfold lv; split <;> omega
      hD := fun c g i h => absurd h (Nat.lt_irrefl 0) }
    (fun c => args m c)

/-- The gathered logits and the result, the latter as `n` write-backs leave it. -/
theorem arrays1 (c : Dev nD) (n : ℕ) : ((pdats m 1 c).arrays ((pdats m 1 c).arrAt · n) : sProp 𝕄)
    = iprop((((c : Thread nD τ).loc main_v1) ↦{fullShare} G m c) ∗ (((c : Thread nD τ).loc main_v2) ↦{fullShare} (dat1 m c).arrAt 1 n)) := by
  have e := Pipeline.arrays_eq (pin2 (F := F)) (pdats m) 1 c arr_whole1 (fun w => by
    show (if _ then _ else _) = _
    split <;> rfl) ((pdats m 1 c).arrAt · n)
  rw [e]
  have e2 := bigSep_W1 (fun w => (((c : Thread nD τ).loc (Pipeline.arrRef spec1 w)) ↦{fullShare} (dat1 m c).arrAt w n : sProp 𝕄))
  rw [(dat1 m c).arrAt_in 0 rfl n] at e2
  exact e2

end Cert.KernelIdeal.Run

end
-- ==== Proof.Run.lean ====
/- The run of the whole program on all devices. -/
module

public import proofs.«01_k».proof.Proof.Calls

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg RegionSeg)
open Cert.KernelIdeal.Gen

variable {F : FTy → Type} [FloatOps F]

local notation "𝕄" => MT nD τ sig Unit (Elt F) ℕ UU ℕ

variable (m : (ℓ : Loc nD τ sig) → Buf (Elt F) ℓ)

/-- What the program leaves in the result. -/
abbrev result (c : Dev nD) : Buf (Elt F) ((c : Thread nD τ).loc main_v2) := (dat1 m c).arrAt 1 cfg1.N

/-- A device's own part of the launch. -/
def base (c : Dev nD) : sProp 𝕄 :=
  iprop(scopedBufs (c : Thread nD τ) ∗ Pipeline.cellsSems0 (pin2 (F := F)) 0 c ∗ idle0 c ∗ opIdle (c : Thread nD τ)
    ∗ args m c ∗ (((c : Thread nD τ).loc main_v2) ↦{fullShare} m ((c : Thread nD τ).loc main_v2)) ∗ owes (c : Thread nD τ) (O₀ c) ∅)

/-- What the pipelines' cells start from. -/
def ghost (c : Dev nD) : sProp 𝕄 :=
  iprop((Pipeline.cellsGhost (pin2 (F := F)) EP 0 c ∗ Pipeline.cellsGhost (pin2 (F := F)) EP 1 c)
    ∗ Pipeline.toksInit (pin2 (F := F)) EP 0 c ∗ Pipeline.toksInit (pin2 (F := F)) EP 1 c)

/-- What a device ends with. -/
abbrev fin (c : Dev nD) : sProp 𝕄 :=
  iprop((args m c ∗ ((c : Thread nD τ).loc main_v2) ↦{fullShare} result m c) ∗ boundary (c : Thread nD τ))

theorem main_ops (c : Dev nD) : main (F := F) c
    = .op (.customCall (Pipeline.entry 0) ()) fun _ => .op (.customCall (Pipeline.entry 1) ()) fun _ => pure ⟨⟩ := rfl

/-- One device's run. -/
theorem wp_main (c : Dev nD) :
    iprop(base m c ∗ enter m c ∗ levAts L lv ∗ ghost c)
    ⊢ wp frame (wpE (defs (F := F)) (Variants.lift 𝒱₀) (c : Thread nD τ) none) Set.univ (main (F := F) c)
        (fun _ => iprop(fin m c ∗ ∃ W, owes (c : Thread nD τ) (0 : CellTallies nD τ sig Unit) W)) := by
  rw [main_ops]
  unfold base ghost
  iintro ⟨⟨Hsc, Hcells, Hidle, Hidl, Hargs, Hv2, HO⟩, Hen, #Hla, ⟨Hg0, Hg1⟩, Ht0, Ht1⟩
  iapply (wp_first m c _ _)
  isplitr [Hsc Hcells Hidle Hidl Hargs HO Hen Hg0 Ht0]; swap
  · isplitl [Hsc]; · iexact Hsc
    isplitl [Hcells]; · iexact Hcells
    isplitl [Hidle]; · iexact Hidle
    isplitl [Hidl]; · iexact Hidl
    isplitl [Hargs]; · iexact Hargs
    isplitl [HO]; · iexists ∅; iexact HO
    isplitl [Hen]; · iexact Hen
    isplitr; · iexact Hla
    isplitl [Hg0] <;> iassumption
  iintro ⟨Hbd, Hargs, Hv1, HO⟩
  have hwp := RegionSeg.wp (pcfgs (F := F)) adm (pdats m) () pin_inj EP defs₀ 𝒱₀ L lv (second m) c none (fun u hu => absurd hu (by simp))
    (fun _ => (pure ⟨⟩ : Prog (TpuEff nD τ sig (Elt F) (Pipeline.Sig Λ₀ (Fin 2) fun p => (pcfgs (F := F) p).Adm) .tc) PUnit))
    (fun _ => iprop(fin m c ∗ ∃ W, owes (c : Thread nD τ) (0 : CellTallies nD τ sig Unit) W))
  iapply hwp
  isplitr [Hbd Hargs Hv1 Hv2 HO Hg1 Ht1]; swap
  · isplitl [Hbd]; · iexact Hbd
    isplitl [Hargs Hv1 Hv2 HO]
    · have hpre : iprop(((((c : Thread nD τ).loc main_v1) ↦{fullShare} G m c) ∗ (((c : Thread nD τ).loc main_v2) ↦{fullShare} m ((c : Thread nD τ).loc main_v2)))
            ∗ args m c ∗ ∃ W, owes (c : Thread nD τ) (0 : CellTallies nD τ sig Unit) W) ⊢ ((second m).pre c : sProp 𝕄) := by
        show (_ : sProp 𝕄) ⊢ iprop((pdats m 1 c).arrays ((pdats m 1 c).arrAt · 0) ∗ emp ∗ args m c ∗ ∃ W, owes (c : Thread nD τ) (0 : CellTallies nD τ sig Unit) W)
        rw [arrays1 m c 0]
        iintro ⟨⟨H1, H2⟩, H3, H4⟩
        isplitl [H1 H2]
        · isplitl [H1]; · iexact H1
          iexact H2
        isplitr; · iempintro
        isplitl [H3] <;> iassumption
      iapply hpre
      isplitl [Hv1 Hv2]
      · isplitl [Hv1] <;> iassumption
      isplitl [Hargs] <;> iassumption
    isplitr; · iexact Hla
    isplitl [Hg1] <;> iassumption
  iintro ⟨Hbd, Hpost⟩
  have hpost : ((second m).post c : sProp 𝕄) ⊢ iprop(((((c : Thread nD τ).loc main_v1) ↦{fullShare} G m c) ∗ (((c : Thread nD τ).loc main_v2) ↦{fullShare} result m c))
            ∗ args m c ∗ ∃ W, owes (c : Thread nD τ) (0 : CellTallies nD τ sig Unit) W) := by
    show iprop((pdats m 1 c).arrays ((pdats m 1 c).arrAt · cfg1.N) ∗ emp ∗ args m c ∗ ∃ W, owes (c : Thread nD τ) (0 : CellTallies nD τ sig Unit) W) ⊢ (_ : sProp 𝕄)
    rw [arrays1 m c cfg1.N]
    iintro ⟨H1, -, H3⟩
    isplitl [H1] <;> iassumption
  ihave Hpost := hpost $$ Hpost
  icases Hpost with ⟨⟨-, Hv2⟩, Hargs, HO⟩
  iapply (Entails.of_eq (wp_pure _ _ _ _ _).symm)
  imodintro
  unfold fin
  isplitr [HO]; swap; · iexact HO
  isplitr [Hbd]; swap; · iexact Hbd
  isplitl [Hargs] <;> iassumption

/-! ## The launch -/

theorem idle_unscoped (m₀ : (ℓ : Loc nD τ sig) → Buf (Elt F) ℓ) (c : Dev nD) :
    (unscopedBufs c (fun b => m₀ ((c : Thread nD τ).loc b)) : sProp 𝕄)
      = iprop(args m₀ c ∗ (((c : Thread nD τ).loc main_v1) ↦{fullShare} m₀ ((c : Thread nD τ).loc main_v1))
        ∗ ((c : Thread nD τ).loc main_v2) ↦{fullShare} m₀ ((c : Thread nD τ).loc main_v2)) := by
  have e1 := Pipeline.unscopedBufs_split (Ix := Unit) (Val := Elt F) (Name := ℕ) (U := UU) (Lvl := ℕ) (pin2 (F := F)) 0 winFacts0.arr_unscoped winFacts0.arr_inj c (fun b => m₀ ((c : Thread nD τ).loc b))
  have e2 := bigSep_W0 (fun w => (((c : Thread nD τ).loc (Pipeline.arrRef spec0 w)) ↦{fullShare} m₀ ((c : Thread nD τ).loc (Pipeline.arrRef spec0 w)) : sProp 𝕄))
  have e3 := unscopedRest0_eq (Ix := Unit) (Val := Elt F) (Name := ℕ) (U := UU) (Lvl := ℕ) c (fun b => m₀ ((c : Thread nD τ).loc b))
  rw [e1]
  exact congrArg₂ (fun a b => iprop(a ∗ b)) e2 e3

/-- One device's launch state, sorted: its own part, the result buffer of the exchange, the exchange's semaphores, its
    launch credit and its levels. -/
theorem core_sort (g : Dev nD → PrngReg) (c : Dev nD) :
    (coreInit (Ix := Unit) (Name := ℕ) (U := UU) (Lvl := ℕ) (Pipeline.owing O₀) 0 (⟨m, fun _ => 0, g⟩ : MemSt nD τ sig (Elt F)) (c : Thread nD τ) : sProp 𝕄)
      ⊢ iprop(base m c ∗ (((c : Thread nD τ).loc main_v1) ↦{fullShare} m ((c : Thread nD τ).loc main_v1)) ∗ Pipeline.ownSems0 osem0 c
        ∗ Pipeline.launchCred O₀ c ∗ levels0 c) := by
  have hb : (boundary (c : Thread nD τ) : sProp 𝕄)
      ⊢ iprop(scopedBufs (c : Thread nD τ) ∗ ((Pipeline.cellsSems0 (pin2 (F := F)) 0 c ∗ Pipeline.ownSems0 osem0 c) ∗ idle0 c) ∗ opIdle (c : Thread nD τ)) := by
    unfold boundary; rw [sems_eq]
  have hu := Entails.of_eq (idle_unscoped m c)
  refine (Pipeline.coreInit_boundary_owing O₀ m g c).trans ?_
  unfold base
  iintro ⟨Hb, Hub, -, HO, Hlv, -, Hcr⟩
  ihave Hb := hb $$ Hb
  icases Hb with ⟨Hsc, ⟨⟨Hcells, Hos⟩, Hidle⟩, Hidl⟩
  ihave Hub := hu $$ Hub
  icases Hub with ⟨Hargs, Hv1, Hv2⟩
  isplitl [Hsc Hcells Hidle Hidl Hargs Hv2 HO]
  · isplitl [Hsc]; · iexact Hsc
    isplitl [Hcells]; · iexact Hcells
    isplitl [Hidle]; · iexact Hidle
    isplitl [Hidl]; · iexact Hidl
    isplitl [Hargs]; · iexact Hargs
    isplitl [Hv2] <;> iassumption
  isplitl [Hv1]; · iexact Hv1
  isplitl [Hos]; · iexact Hos
  isplitl [Hcr] <;> iassumption

/-- The levels are assigned on every thread at once; only the tensor cores' cells have any. -/
theorem set_levels : (bigSep Finset.univ fun c : Dev nD => levels0 (Ix := Unit) (Val := Elt F) (Name := ℕ) (U := UU) (Lvl := ℕ) (τ := τ) (sig := sig) c)
    ⊢ (|==> levAts L lv : sProp 𝕄) := by
  refine (bigSep_mono fun (c : Dev nD) _ => lev_assign_cells (Ix := Unit) (Val := Elt F) (Name := ℕ) (U := UU) (Lvl := ℕ) (c : Thread nD τ) L lv).trans <| (BI.bigSep_bupd _ _).trans <| BI.bupd_mono ?_
  rw [bigSep_sep', show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv)]
  have none : (bigSep Finset.univ fun d : Dev nD => bigSep (Finset.univ.erase Proc.tc) fun p => (coreLevAts ((d, p) : Thread nD τ) L lv : sProp 𝕄)) = BI.emp := by
    rw [← BI.bigSep_emp_const (Finset.univ : Finset (Dev nD))]
    refine bigSep_congr fun d _ => ?_
    rw [← BI.bigSep_emp_const (Finset.univ.erase (Proc.tc : Proc τ))]
    refine bigSep_congr fun p hp => ?_
    unfold coreLevAts
    rw [← BI.bigSep_emp_const (Finset.univ : Finset (SemLoc sig))]
    exact bigSep_congr fun sm _ => by rw [L_of_ne (((d, p) : Thread nD τ), sm) (Finset.ne_of_mem_erase hp), BI.bigSep_empty]
  rw [none]
  show (_ : sProp 𝕄) ⊢ iprop((bigSep Finset.univ fun d : Dev nD => coreLevAts (d : Thread nD τ) L lv) ∗ BI.emp)
  iintro ⟨-, H⟩
  isplitl [H]; · iexact H
  iempintro

/-- The pipelines' cells, dealt to the devices. -/
theorem deal_ghost : (iprop((bigSep Finset.univ fun c : Dev nD => bigSep Finset.univ fun p => Pipeline.cellsGhost (pin2 (F := F)) EP p c)
      ∗ bigSep Finset.univ fun c : Dev nD => bigSep Finset.univ fun p => Pipeline.toksInit (pin2 (F := F)) EP p c) : sProp 𝕄)
    ⊢ bigSep Finset.univ fun c : Dev nD => ghost c := by
  rw [← bigSep_sep']
  refine bigSep_mono fun c _ => ?_
  show (_ : sProp 𝕄) ⊢ ghost c
  unfold ghost
  rw [bigSep_W0 (fun p => Pipeline.cellsGhost (pin2 (F := F)) EP p c), bigSep_W0 (fun p => Pipeline.toksInit (pin2 (F := F)) EP p c)]

/-- What a device's end says of a memory. -/
theorem fin_read (c : Dev nD) (s' : Phys nD τ sig (Elt F)) :
    (iprop((args m c ∗ ((c : Thread nD τ).loc main_v2) ↦{fullShare} result m c) ∗ SI s') : sProp 𝕄)
      ⊢ iprop(|={Set.univ}=> (⌜(s'.mem.mem ((c : Thread nD τ).loc main_arg0) = m ((c : Thread nD τ).loc main_arg0)
        ∧ s'.mem.mem ((c : Thread nD τ).loc main_arg1) = m ((c : Thread nD τ).loc main_arg1))
        ∧ s'.mem.mem ((c : Thread nD τ).loc main_v2) = result m c⌝ ∗ SI s')) := by
  have rd1 (b : Ref sig .tc) (f : Buf (Elt F) ((c : Thread nD τ).loc b)) :
      (iprop((((c : Thread nD τ).loc b) ↦{fullShare} f) ∗ SI s') : sProp 𝕄) ⊢ iprop(⌜s'.mem.mem ((c : Thread nD τ).loc b) = f⌝ ∗ SI s') := by
    have h := pointsTo_read_all (Ix := Unit) (Name := ℕ) (U := UU) (Lvl := ℕ) ({()} : Finset Unit) (fun _ => (c : Thread nD τ).loc b) (fun _ => f) s'
    rw [bigSep_singleton] at h
    refine h.trans ?_
    iintro ⟨%h, H⟩
    isplitr
    · ipureintro; exact h () (Finset.mem_singleton_self _)
    iexact H
  unfold args
  iintro ⟨⟨⟨H0, H1⟩, H2⟩, HS⟩
  ihave X := (rd1 main_arg0 _) $$ [H0 HS]
  · isplitl [H0] <;> iassumption
  icases X with ⟨%h0, HS⟩
  ihave X := (rd1 main_arg1 _) $$ [H1 HS]
  · isplitl [H1] <;> iassumption
  icases X with ⟨%h1, HS⟩
  ihave X := (rd1 main_v2 _) $$ [H2 HS]
  · isplitl [H2] <;> iassumption
  icases X with ⟨%h2, HS⟩
  imodintro
  isplitr
  · ipureintro; exact ⟨⟨h0, h1⟩, h2⟩
  iexact HS

/-- What starts the two rounds' algebras. -/
abbrev seed : UU := (initOf (Pipeline.cells (pin2 (F := F)) pin_inj) (Pipeline.launchToks (pin2 (F := F)) pin_inj), launchOf ownCells ∅ pays)

/-- THE RUN: from any memory and any generator registers, with every counter at zero, the program ends on every weakly fair
    schedule; each device's arguments are as launched, its result is the second call's, and every counter is at zero. -/
theorem run_main (g : Dev nD → PrngReg) :
    θ_run (defs (F := F)) (onTc (τ := τ) (main (F := F))) ⟨m, fun _ => 0, g⟩ (fun r => (∀ c : Dev nD,
      (r.2.mem ((c : Thread nD τ).loc main_arg0) = m ((c : Thread nD τ).loc main_arg0)
        ∧ r.2.mem ((c : Thread nD τ).loc main_arg1) = m ((c : Thread nD τ).loc main_arg1))
        ∧ r.2.mem ((c : Thread nD τ).loc main_v2) = result m c)
      ∧ r.2.sem = fun _ => 0) := by
  classical
  let pre : Dev nD → sProp 𝕄 := fun c => iprop(base m c ∗ enter m c ∗ levAts L lv ∗ ghost c)
  refine (θ_run (defs (F := F)) _ _).mono (Q := fun r => (∀ c : Dev nD, ((r.2.mem ((c : Thread nD τ).loc main_arg0) = m ((c : Thread nD τ).loc main_arg0)
        ∧ r.2.mem ((c : Thread nD τ).loc main_arg1) = m ((c : Thread nD τ).loc main_arg1))
        ∧ r.2.mem ((c : Thread nD τ).loc main_v2) = result m c)
        ∧ ∀ sm : SemLoc sig, sm.isScoped .tc = true → r.2.sem ((c : Thread nD τ), sm) = 0)
      ∧ ∀ g' : GSem nD τ sig, g'.1.2 ≠ .tc → r.2.sem g' = 0)
    (fun r hr => ⟨fun c => (hr.1 c).1, funext fun g' => sems_of_reads (fun c => (hr.1 c).2) hr.2 g' (.inr (regions_no_unscoped g'.2))⟩)
    (adequate_tpu (defs (F := F)) _ _ _
      (reflect_intro_fupd_tc_sems (X := Unit) (Variants.lift 𝒱₀) (Pipeline.owing O₀) 0 (noBookings fun _ => le_rfl) (Pipeline.owing_of_ne O₀)
        (seed (F := F)) (fun _ => pre) (fun _ => fin m) (fun _ => iprop(emp)) Set.univ ?_ (fun _ c => ?_) fun _ => ?_))
  · have hcores : (bigSep Finset.univ fun d : Dev nD =>
          (coreInit (Ix := Unit) (Name := ℕ) (U := UU) (Lvl := ℕ) (Pipeline.owing O₀) 0 (⟨m, fun _ => 0, g⟩ : MemSt nD τ sig (Elt F)) (d : Thread nD τ) : sProp 𝕄))
        ⊢ iprop((bigSep Finset.univ fun c : Dev nD => base m c)
          ∗ (bigSep Finset.univ fun c : Dev nD => ((c : Thread nD τ).loc main_v1) ↦{fullShare} m ((c : Thread nD τ).loc main_v1))
          ∗ (bigSep Finset.univ fun c : Dev nD => Pipeline.ownSems0 osem0 c)
          ∗ (bigSep Finset.univ fun c : Dev nD => Pipeline.launchCred O₀ c)
          ∗ bigSep Finset.univ fun c : Dev nD => levels0 c) := by
      refine (bigSep_mono fun c _ => core_sort m g c).trans ?_
      simp only [bigSep_sep']
      exact BI.Entails.refl _
    have hpre : iprop((bigSep Finset.univ fun c : Dev nD => base m c) ∗ (bigSep Finset.univ fun c : Dev nD => enter m c)
        ∗ (bigSep Finset.univ fun _ : Dev nD => (levAts L lv : sProp 𝕄)) ∗ bigSep Finset.univ fun c : Dev nD => ghost c) ⊢ bigSep Finset.univ pre := by
      simp only [pre, bigSep_sep']
      exact BI.Entails.refl _
    iintro ⟨Hcores, Hu⟩
    ihave Hc := hcores $$ Hcores
    icases Hc with ⟨Hb, Hv1, Hos, Hcr, Hlv⟩
    imod set_levels $$ Hlv with #Hla
    ihave Hu := (ownU_pair _ _) $$ Hu
    icases Hu with ⟨HP, HR⟩
    imod (Pipeline.fund_ghost (pin2 (F := F)) EP pin_inj) $$ HP with Hg
    imod (deal m) $$ [Hv1 Hos Hcr HR] with Hen
    · isplitl [Hv1]; · iexact Hv1
      isplitl [Hos]; · iexact Hos
      isplitl [Hcr] <;> iassumption
    imodintro
    iexists ()
    isplitr []
    · iapply hpre
      isplitl [Hb]; · iexact Hb
      isplitl [Hen]; · iexact Hen
      isplitr
      · iapply (BI.bigSep_intro_persistent (S := Finset.univ) fun (c : Dev nD) _ => (BI.Entails.refl (levAts L lv : sProp 𝕄)))
        iexact Hla
      iapply deal_ghost
      iexact Hg
    · iempintro
  · exact wp_main m c
  · iintro ⟨H, -, Hsc⟩ %s' HSI
    ihave %hsc := (scSems_read_zero m g s') $$ [Hsc HSI]
    · isplitl [Hsc] <;> iassumption
    imod (posts_fupd Finset.univ (fun c s' => Pipeline.boundary_read c s' (fin_read m c s')) s') $$ [H HSI] with %h
    · isplitl [H] <;> iassumption
    imodintro
    ipureintro
    exact ⟨fun c => h c (Finset.mem_univ c), hsc⟩

end Cert.KernelIdeal.Run

end
-- ==== Proof.Row.lean ====
/- The softmax of one row of 32768 extended reals, and its maximum and sum taken over the row's two halves. -/
module

public import Idealize.ShloMosaic.PureOps.Ideal.Laws

@[expose] public section

noncomputable section

namespace Cert.Row

open Idealize.ShloMosaic

/-- The left half of a row's columns, and the right one. -/
def lo (k : Fin 16384) : Fin 32768 := ⟨k.val, by omega⟩
def hi (k : Fin 16384) : Fin 32768 := ⟨16384 + k.val, by omega⟩

/-- Every column is in one of the halves. -/
theorem lo_or_hi (j : Fin 32768) : (∃ k, lo k = j) ∨ ∃ k, hi k = j := by
  by_cases h : j.val < 16384
  · exact .inl ⟨⟨j.val, h⟩, rfl⟩
  · exact .inr ⟨⟨j.val - 16384, by omega⟩, Fin.ext (by show 16384 + (j.val - 16384) = j.val; omega)⟩

/-- The greatest entry of a row, from the value `b`. -/
def top {n : ℕ} (b : EReal) (f : Fin n → EReal) : EReal := (Finset.univ : Finset (Fin n)).fold max b f

/-- The greatest of a row is the greater of its halves'. -/
theorem top_halves (b : EReal) (f : Fin 32768 → EReal) : top b f = max (top b fun k => f (lo k)) (top b fun k => f (hi k)) := by
  refine eq_of_forall_ge_iff fun c => ?_
  unfold top
  rw [max_le_iff, Finset.fold_max_le, Finset.fold_max_le, Finset.fold_max_le]
  constructor
  · exact fun ⟨h0, h⟩ => ⟨⟨h0, fun k _ => h _ (Finset.mem_univ _)⟩, h0, fun k _ => h _ (Finset.mem_univ _)⟩
  · rintro ⟨⟨h0, hl⟩, -, hr⟩
    refine ⟨h0, fun j _ => ?_⟩
    rcases lo_or_hi j with ⟨k, rfl⟩ | ⟨k, rfl⟩
    · exact hl k (Finset.mem_univ k)
    · exact hr k (Finset.mem_univ k)

/-- A sum cut in two. -/
theorem sum_cut {n N : ℕ} (h : N = n + n) (f : Fin N → EReal) :
    ∑ k, f k = (∑ k : Fin n, f ⟨k.val, by omega⟩) + ∑ k : Fin n, f ⟨n + k.val, by omega⟩ := by
  subst h
  exact Fin.sum_univ_add f

/-- The sum of a row is the sum of its halves'. -/
theorem sum_halves (f : Fin 32768 → EReal) : ∑ k, f k = (∑ k, f (lo k)) + ∑ k, f (hi k) := sum_cut (n := 16384) (by norm_num) f

/-- The value a row's maximum starts from. -/
abbrev bottom : EReal := Ideal.ofBits .f32 0xFF800000#32
/-- The exponential of a row's entry less the row's maximum. -/
def up (f : Fin 32768 → EReal) (j : Fin 32768) : EReal := Ideal.exp (f j - top bottom f)
/-- The softmax of a row. -/
def soft (f : Fin 32768 → EReal) (j : Fin 32768) : EReal := Ideal.div (up f j) (∑ k, up f k)

end Cert.Row

end
-- ==== Proof.Softmax.lean ====
/- Over the extended reals the second call's body writes the softmax of each row, which it reads as two halves. -/
module

public import proofs.«01_k».proof.Proof.Second
public import proofs.«01_k».proof.Proof.Row
public import Idealize.ShloMosaic.Lib.Pointwise.ElementwiseCore

@[expose] public section

noncomputable section

namespace Cert.KernelIdeal.Run

open Idealize.ShloMosaic
open Cert.KernelIdeal.Gen Cert.Row
open Idealize.ShloMosaic.ValueIdx

/-- A row of the gathered block: half 0, then half 1. -/
def rowOf (X : S2x64x16384.Idx → Elt Ideal .bf16) (r : Fin 64) (j : Fin 32768) : EReal :=
  X (ix3 (n0 := 2) (n1 := 64) (n2 := 16384) ⟨j.val / 16384, by omega⟩ r ⟨j.val % 16384, Nat.mod_lt _ (by decide)⟩)

theorem rowOf_lo (X : S2x64x16384.Idx → Elt Ideal .bf16) (r : Fin 64) (k : Fin 16384) :
    rowOf X r (lo k) = X (ix3 (n0 := 2) (n1 := 64) (n2 := 16384) 0 r k) := by
  unfold rowOf
  congr 2
  · exact Fin.ext (by show k.val / 16384 = 0; omega)
  · exact Fin.ext (by show k.val % 16384 = k.val; omega)
theorem rowOf_hi (X : S2x64x16384.Idx → Elt Ideal .bf16) (r : Fin 64) (k : Fin 16384) :
    rowOf X r (hi k) = X (ix3 (n0 := 2) (n1 := 64) (n2 := 16384) 1 r k) := by
  unfold rowOf
  congr 2
  · exact Fin.ext (by show (16384 + k.val) / 16384 = 1; omega)
  · exact Fin.ext (by show (16384 + k.val) % 16384 = k.val; omega)

/-- A half's entry as the body widens it. -/
theorem wide0 (X : S2x64x16384.Idx → Elt Ideal .bf16) (r : Fin 64) (k : Fin 16384) :
    k1_pay1 (halfOf X 0) (ix2 (n0 := 64) (n1 := 16384) r k) = rowOf X r (lo k) :=
  (shapeCast_1ab_ab_apply (a := 64) (b := 16384) (halfOf X 0) _ r k).trans (rowOf_lo X r k).symm
theorem wide1 (X : S2x64x16384.Idx → Elt Ideal .bf16) (r : Fin 64) (k : Fin 16384) :
    k1_pay2 (halfOf X 1) (ix2 (n0 := 64) (n1 := 16384) r k) = rowOf X r (hi k) :=
  (shapeCast_1ab_ab_apply (a := 64) (b := 16384) (halfOf X 1) _ r k).trans (rowOf_hi X r k).symm

/-- A column of 64 entries, each laid along its row. -/
theorem along (x : FVec Ideal S64x1 .f32) (r : Fin 64) (k : Fin 16384) :
    broadcastTo S64x16384 x broadcasts_S64x1_S64x16384 (ix2 (n0 := 64) (n1 := 16384) r k) = x (ix2 (n0 := 64) (n1 := 1) r 0) :=
  broadcastTo_apply x _ _ _ fun a => match a with | ⟨0, _⟩ => rfl | ⟨1, _⟩ => rfl

/-- The index a row's reduction reads at column `k`. -/
theorem lift_row (h : S64x16384.Reduces [1] S64) (r : Fin 64) (k : Fin 16384) :
    h.lift (ix1 (n := 64) r) k = ix2 (n0 := 64) (n1 := 16384) r k := by
  funext a
  match a with | ⟨0, _⟩ => rfl | ⟨1, _⟩ => rfl

/-- A list of 64 entries as a column. -/
theorem column (x : FVec Ideal S64 .f32) (r : Fin 64) : shapeCast S64x1 x shapeCasts_S64_S64x1 (ix2 (n0 := 64) (n1 := 1) r 0) = x (ix1 (n := 64) r) :=
  shapeCast_apply x _ _ _ (by
    rw [Shape.rowMajor_val_two, Shape.rowMajor_val_one]
    show r.val = r.val * 1 + 0
    omega)

/-- The maximum of each row, as a column. -/
theorem row_max (p : FVec Ideal S64x16384 .f32) (r : Fin 64) :
    shapeCast S64x1 (multiReduction .maximumf [1] S64 p 0xFF800000#32 reduces_S64x16384_S64 (.inl rfl) rfl) shapeCasts_S64_S64x1 (ix2 (n0 := 64) (n1 := 1) r 0)
      = top bottom fun k => p (ix2 (n0 := 64) (n1 := 16384) r k) := by
  refine (column _ r).trans ((Ideal.multiReduction_maximumf_single p _ _ _ _ _).trans ?_)
  unfold top
  refine congrArg (Finset.fold max bottom · Finset.univ) ?_
  funext k
  exact congrArg p (lift_row _ r k)

/-- The sum of each row, as a column. -/
theorem row_sum (p : FVec Ideal S64x16384 .f32) (r : Fin 64) :
    shapeCast S64x1 (multiReduction .add [1] S64 p 0x00000000#32 reduces_S64x16384_S64 (.inl rfl) rfl) shapeCasts_S64_S64x1 (ix2 (n0 := 64) (n1 := 1) r 0)
      = ∑ k : Fin 16384, p (ix2 (n0 := 64) (n1 := 16384) r k) := by
  refine (column _ r).trans ((Ideal.multiReduction_add_single p _ _ _ _ _).trans ?_)
  exact Finset.sum_congr rfl fun k _ => congrArg p (lift_row _ r k)

/-- The column of maxima of the two halves. -/
theorem max_pair (p q : Vec Ideal S1x64x16384 .bf16) (y : S64x1.Idx) :
    k1_pay3 p q y = max
      (shapeCast S64x1 (multiReduction .maximumf [1] S64 (k1_pay1 p) 0xFF800000#32 reduces_S64x16384_S64 (.inl rfl) rfl) shapeCasts_S64_S64x1 y : EReal)
      (shapeCast S64x1 (multiReduction .maximumf [1] S64 (k1_pay2 q) 0xFF800000#32 reduces_S64x16384_S64 (.inl rfl) rfl) shapeCasts_S64_S64x1 y : EReal) := by
  unfold k1_pay3; exact maximumf_apply _ _ _

/-- The maximum the body takes of a row is the whole row's. -/
theorem max_row (X : S2x64x16384.Idx → Elt Ideal .bf16) (r : Fin 64) :
    k1_pay3 (halfOf X 0) (halfOf X 1) (ix2 (n0 := 64) (n1 := 1) r 0) = top bottom (rowOf X r) := by
  have h0 : (fun k => k1_pay1 (halfOf X 0) (ix2 (n0 := 64) (n1 := 16384) r k)) = fun k => rowOf X r (lo k) := funext fun k => wide0 X r k
  have h1 : (fun k => k1_pay2 (halfOf X 1) (ix2 (n0 := 64) (n1 := 16384) r k)) = fun k => rowOf X r (hi k) := funext fun k => wide1 X r k
  rw [top_halves, ← h0, ← h1, max_pair]
  exact congrArg₂ max (row_max _ r) (row_max _ r)

/-- The exponentials of the two halves are the whole row's. -/
theorem up_lo (X : S2x64x16384.Idx → Elt Ideal .bf16) (r : Fin 64) (k : Fin 16384) :
    k1_pay4 (halfOf X 0) (halfOf X 1) (ix2 (n0 := 64) (n1 := 16384) r k) = up (rowOf X r) (lo k) :=
  congrArg Ideal.exp (congrArg₂ (fun a b : EReal => a - b) (wide0 X r k) ((along _ r k).trans (max_row X r)))
theorem up_hi (X : S2x64x16384.Idx → Elt Ideal .bf16) (r : Fin 64) (k : Fin 16384) :
    k1_pay5 (halfOf X 0) (halfOf X 1) (ix2 (n0 := 64) (n1 := 16384) r k) = up (rowOf X r) (hi k) :=
  congrArg Ideal.exp (congrArg₂ (fun a b : EReal => a - b) (wide1 X r k) ((along _ r k).trans (max_row X r)))

/-- The sum the body takes is the whole row's. -/
theorem sum_row (X : S2x64x16384.Idx → Elt Ideal .bf16) (r : Fin 64) :
    k1_pay6 (halfOf X 0) (halfOf X 1) (ix2 (n0 := 64) (n1 := 1) r 0) = ∑ k, up (rowOf X r) k := by
  rw [sum_halves]
  refine congrArg₂ (fun a b : EReal => a + b) ((row_sum _ r).trans ?_) ((row_sum _ r).trans ?_)
  · exact Finset.sum_congr rfl fun k _ => up_lo X r k
  · exact Finset.sum_congr rfl fun k _ => up_hi X r k

/-- The quotients the body writes. -/
theorem quot_lo (p q : Vec Ideal S1x64x16384 .bf16) (y : S64x16384.Idx) :
    k1_pay7 p q y = Ideal.div (k1_pay4 p q y) (broadcastTo S64x16384 (k1_pay6 p q) broadcasts_S64x1_S64x16384 y) := by
  unfold k1_pay7; exact divf_apply _ _ _
theorem quot_hi (p q : Vec Ideal S1x64x16384 .bf16) (y : S64x16384.Idx) :
    k1_pay8 p q y = Ideal.div (k1_pay5 p q y) (broadcastTo S64x16384 (k1_pay6 p q) broadcasts_S64x1_S64x16384 y) := by
  unfold k1_pay8; exact divf_apply _ _ _

/-- Two half rows side by side, at a column of each. -/
theorem beside_lo (p q : FVec Ideal S64x16384 .f32) (r : Fin 64) (k : Fin 16384) :
    beside p q (ix2 (n0 := 64) (n1 := 32768) r (lo k)) = p (ix2 (n0 := 64) (n1 := 16384) r k) :=
  dif_pos (show (lo k).val < 16384 from k.isLt)
theorem beside_hi (p q : FVec Ideal S64x16384 .f32) (r : Fin 64) (k : Fin 16384) :
    beside p q (ix2 (n0 := 64) (n1 := 32768) r (hi k)) = q (ix2 (n0 := 64) (n1 := 16384) r k) := by
  refine (dif_neg (show ¬ (hi k).val < 16384 by show ¬ 16384 + k.val < 16384; omega)).trans ?_
  refine congrArg (fun z => q (ix2 (n0 := 64) (n1 := 16384) r z)) (Fin.ext ?_)
  show 16384 + k.val - 16384 = k.val
  omega

/-- What the body writes is the softmax of each row. -/
theorem sm_apply (X : S2x64x16384.Idx → Elt Ideal .bf16) (r : Fin 64) (j : Fin 32768) :
    sm X (ix2 (n0 := 64) (n1 := 32768) r j) = soft (rowOf X r) j := by
  unfold sm soft
  rcases lo_or_hi j with ⟨k, rfl⟩ | ⟨k, rfl⟩
  · rw [beside_lo, quot_lo, along, up_lo, sum_row]
  · rw [beside_hi, quot_hi, along, up_hi, sum_row]

end Cert.KernelIdeal.Run

end
-- ==== Proof.Gathered.lean ====
/- Over the extended reals the gathered logits are the product of the activations and the whole weights, when each device's
   block of the weights is its block of the whole. -/
module

public import proofs.«01_k».proof.Proof.Dats
public import Idealize.ShloMosaic.Lib.MatmulPlain
public import Idealize.ShloMosaic.Lib.Layout
public import Idealize.ShloMosaic.Lib.Pipeline.ValueKit.Geometry

@[expose] public section

noncomputable section

namespace Cert.KernelIdeal.Run

open Idealize.ShloMosaic Idealize.ShloMosaic.TcCoe
open Idealize.SL.Sem
open Cert.KernelIdeal.Gen
open Idealize.ShloMosaic.ValueIdx

variable (m : (ℓ : Loc nD τ sig) → Buf (Elt Ideal) ℓ)

theorem x_index (t : Fin cfg0.N) : win0_0.index t 0 = 0 ∧ win0_0.index t 1 = 0 := by revert t; decide
theorem w_index (j : Fin 16) : win0_1.index (pt0 j) 0 = 0 ∧ win0_1.index (pt0 j) 1 = j.val := by revert j; decide
theorem g_index (t : Fin cfg1.N) : win1_0.index t 0 = 0 ∧ win1_0.index t 1 = t.val ∧ win1_0.index t 2 = 0 := by revert t; decide

/-- The activations are read whole at every point. -/
theorem xblk_apply (c : Dev nD) (t : Fin cfg0.N) (i : Fin 1024) (k : Fin 2048) :
    xblk m c t (ix2 (n0 := 1024) (n1 := 2048) i k) = m ((c : Thread nD τ).loc main_arg0) (ix2 (n0 := 1024) (n1 := 2048) i k) := by
  unfold xblk
  refine congrArg (m ((c : Thread nD τ).loc main_arg0)) ?_
  funext a
  match a with
  | ⟨0, _⟩ => exact Fin.ext (by blk_simp; rw [(x_index t).1]; show 0 * 1024 + i.val = i.val; omega)
  | ⟨1, _⟩ => exact Fin.ext (by blk_simp; rw [(x_index t).2]; show 0 * 2048 + k.val = k.val; omega)

/-- Point `j` reads column block `j` of the weights. -/
theorem wblk_apply (c : Dev nD) (j : Fin 16) (k : Fin 2048) (q : Fin 1024) :
    wblk m c (pt0 j) (ix2 (n0 := 2048) (n1 := 1024) k q)
      = m ((c : Thread nD τ).loc main_arg1) (ix2 (n0 := 2048) (n1 := 16384) k ⟨1024 * j.val + q.val, by omega⟩) := by
  unfold wblk
  refine congrArg (m ((c : Thread nD τ).loc main_arg1)) ?_
  funext a
  match a with
  | ⟨0, _⟩ => exact Fin.ext (by blk_simp; rw [(w_index j).1]; show 0 * 2048 + k.val = k.val; omega)
  | ⟨1, _⟩ => exact Fin.ext (by blk_simp; rw [(w_index j).2]; show j.val * 1024 + q.val = 1024 * j.val + q.val; omega)

/-- Point `t` of the second call reads 64 rows of both halves. -/
theorem gblk_apply (c : Dev nD) (t : Fin cfg1.N) (h : Fin 2) (r : Fin 64) (k : Fin 16384) :
    gblk m c t (ix3 (n0 := 2) (n1 := 64) (n2 := 16384) h r k)
      = G m c (ix3 (n0 := 2) (n1 := 1024) (n2 := 16384) h ⟨64 * t.val + r.val, by have : t.val < 16 := t.isLt; omega⟩ k) := by
  unfold gblk
  refine congrArg (G m c) ?_
  funext a
  match a with
  | ⟨0, _⟩ => exact Fin.ext (by blk_simp; rw [(g_index t).1]; show 0 * 2 + h.val = h.val; omega)
  | ⟨1, _⟩ => exact Fin.ext (by blk_simp; rw [(g_index t).2.1]; show t.val * 64 + r.val = 64 * t.val + r.val; omega)
  | ⟨2, _⟩ => exact Fin.ext (by blk_simp; rw [(g_index t).2.2]; show 0 * 16384 + k.val = k.val; omega)

/-- A chunk's entry is a sum of products. -/
theorem pay_apply (x : Vec Ideal S1024x2048 .bf16) (w : Vec Ideal S2048x1024 .bf16) (i q : Fin 1024) :
    k0_pay1 x w (ix3 (n0 := 1) (n1 := 1024) (n2 := 1024) 0 i q)
      = ∑ k : Fin 2048, (x (ix2 (n0 := 1024) (n1 := 2048) i k) * w (ix2 (n0 := 2048) (n1 := 1024) k q) : EReal) := by
  unfold k0_pay1
  refine (shapeCast_ab_1ab_apply (a := 1024) (b := 1024) _ _ 0 i q).trans ?_
  refine (Ideal.matmul_plain_apply (M := 1024) (K := 2048) (N := 1024) none _ _ _ i q).trans ?_
  refine (congrArg (· + _) Ideal.ofBits_zero_f32).trans ((zero_add _).trans ?_)
  rw [shapeCast_self, shapeCast_self]

/-- The device a half comes from holds that half of the weights' columns. -/
theorem mesh_half (c : Dev nD) (h : Fin 2) :
    ((Layout.meshBlock [2, 2] (![[], [0]] : Fin 2 → List ℕ) (src c h)) 0).val = 0
      ∧ ((Layout.meshBlock [2, 2] (![[], [0]] : Fin 2 → List ℕ) (src c h)) 1).val = h.val := by
  revert c h; decide

/-- That half's entries in the whole weights. -/
theorem cut_apply (w : (⟨2, ![2048, 32768]⟩ : Shape).Idx → Elt Ideal .bf16) (c : Dev nD) (h : Fin 2) (k : Fin 2048) (q : Fin 16384) :
    (Layout.blockN ⟨2, ![2048, 16384]⟩ ⟨2, ![2048, 32768]⟩ (Layout.meshBlock [2, 2] ![[], [0]] (src c h)) w) (ix2 (n0 := 2048) (n1 := 16384) k q)
      = w (ix2 (n0 := 2048) (n1 := 32768) k ⟨16384 * h.val + q.val, by omega⟩) := by
  refine congrArg w (funext fun a => Fin.ext ?_)
  match a with
  | ⟨0, _⟩ =>
    show ((Layout.meshBlock [2, 2] (![[], [0]] : Fin 2 → List ℕ) (src c h)) 0).val * 2048 + k.val = k.val
    rw [(mesh_half c h).1]; omega
  | ⟨1, _⟩ =>
    show ((Layout.meshBlock [2, 2] (![[], [0]] : Fin 2 → List ℕ) (src c h)) 1).val * 16384 + q.val = 16384 * h.val + q.val
    rw [(mesh_half c h).2]; omega

/-- The gathered logits, from activations all devices hold and weights they hold a block each of. -/
theorem G_apply (x : Vec Ideal S1024x2048 .bf16) (w : (⟨2, ![2048, 32768]⟩ : Shape).Idx → Elt Ideal .bf16)
    (hx : ∀ c : Dev nD, m ((c : Thread nD τ).loc main_arg0) = x)
    (hw : ∀ c : Dev nD, m ((c : Thread nD τ).loc main_arg1)
      = Layout.blockN ⟨2, ![2048, 16384]⟩ ⟨2, ![2048, 32768]⟩ (Layout.meshBlock [2, 2] ![[], [0]] c) w)
    (c : Dev nD) (h : Fin 2) (i : Fin 1024) (q : Fin 16384) :
    G m c (ix3 (n0 := 2) (n1 := 1024) (n2 := 16384) h i q)
      = ∑ k : Fin 2048, (x (ix2 (n0 := 1024) (n1 := 2048) i k)
          * w (ix2 (n0 := 2048) (n1 := 32768) k ⟨16384 * h.val + q.val, by omega⟩) : EReal) := by
  refine (pay_apply (xblk m (src c h) (pt0 ⟨q.val / 1024, by omega⟩)) (wblk m (src c h) (pt0 ⟨q.val / 1024, by omega⟩)) i
    ⟨q.val % 1024, Nat.mod_lt _ (by decide)⟩).trans ?_
  refine Finset.sum_congr rfl fun k _ => ?_
  refine congrArg₂ (fun a b : EReal => a * b) ((xblk_apply m _ _ i k).trans (congrFun (hx _) _)) ?_
  refine (wblk_apply m _ _ k _).trans ((congrFun (hw _) _).trans ((cut_apply w c h k _).trans ?_))
  refine congrArg (fun z => w (ix2 (n0 := 2048) (n1 := 32768) k z)) (Fin.ext ?_)
  show 16384 * h.val + (1024 * (q.val / 1024) + q.val % 1024) = 16384 * h.val + q.val
  omega

end Cert.KernelIdeal.Run

end
-- ==== Proof.RefRow.lean ====
/- Over the extended reals the reference's result, at an index, is the softmax of that row of its logits; its logits are the sums
   of products. -/
module

public import proofs.«01_k».proof.Proof.Gen.ReferenceIdeal
public import proofs.«01_k».proof.Proof.Row
public import Idealize.ShloMosaic.Lib.StackMember
public import Idealize.ShloMosaic.Lib.Pipeline.Value
public import Idealize.ShloMosaic.Lib.Pointwise.ElementwiseCore

@[expose] public section

noncomputable section

namespace Cert.ReferenceIdeal.Softmax

open Idealize.ShloMosaic
open Cert.ReferenceIdeal Cert.ReferenceIdeal.Gen Cert.Row
open Idealize.ShloMosaic.ValueIdx

/-- One value per row, laid along the row. -/
def spread (v : FVec Ideal S1024 .f32) : FVec Ideal S1024x32768 .f32 :=
  broadcastInDim S1024x32768 ![0, 1] bcast_S1024x1_S1024x32768_0_1 (broadcastInDim S1024x1 ![0] bcast_S1024_S1024x1_0 v)
/-- The maximum of each row. -/
def peaks (D : FVec Ideal S1024x32768 .f32) : FVec Ideal S1024 .f32 :=
  Host.reduce FloatOps.maximumf D (constant S_ .f32 0xFF800000#32) reducesTo_S1024x32768_S1024_d1 h_S_
/-- The sum of each row. -/
def sums (E : FVec Ideal S1024x32768 .f32) : FVec Ideal S1024 .f32 :=
  Host.reduceAdd E (constant S_ .f32 0x00000000#32) reducesTo_S1024x32768_S1024_d1 h_S_
/-- The exponentials of the entries less their row's maximum. -/
def ups (D : FVec Ideal S1024x32768 .f32) : FVec Ideal S1024x32768 .f32 := Host.exp (subf D (spread (peaks D)))
/-- The logits: the product of the two matrices. -/
def logits (x : FVec Ideal S1024x2048 .bf16) (w : FVec Ideal S2048x32768 .bf16) : FVec Ideal S1024x32768 .f32 :=
  Host.dotGeneral dot_S1024x2048_S2048x32768_S1024x32768_1_0_0_1_n_n none (extf .f32 x bitsLt_bf16_f32) (extf .f32 w bitsLt_bf16_f32)
/-- The reference's result. -/
def whole (x : FVec Ideal S1024x2048 .bf16) (w : FVec Ideal S2048x32768 .bf16) : FVec Ideal S1024x32768 .f32 :=
  Host.divf (ups (logits x w)) (spread (sums (ups (logits x w))))

theorem spread_apply (v : FVec Ideal S1024 .f32) (i : Fin 1024) (j : Fin 32768) :
    spread v (ix2 (n0 := 1024) (n1 := 32768) i j) = v (ix1 (n := 1024) i) := by
  unfold spread
  refine (broadcastInDim_apply _ _ _ _ (ix2 (n0 := 1024) (n1 := 1) i 0) fun a => match a with | ⟨0, _⟩ => rfl | ⟨1, _⟩ => rfl).trans ?_
  exact broadcastInDim_apply _ _ _ _ (ix1 (n := 1024) i) fun a => match a with | ⟨0, _⟩ => rfl

theorem drops : S1024x32768.Reduces [1] S1024 := by decide

/-- The index a row's reduction reads at column `k`. -/
theorem lift_row (i : Fin 1024) (k : Fin 32768) : drops.lift (ix1 (n := 1024) i) k = ix2 (n0 := 1024) (n1 := 32768) i k := by
  funext a
  match a with | ⟨0, _⟩ => rfl | ⟨1, _⟩ => rfl

theorem peaks_apply (D : FVec Ideal S1024x32768 .f32) (i : Fin 1024) :
    peaks D (ix1 (n := 1024) i) = top bottom fun k => D (ix2 (n0 := 1024) (n1 := 32768) i k) := by
  unfold peaks top
  refine (Host.reduce_eq_fold_single _ D _ _ drops _ _).trans ?_
  refine congrArg (Finset.fold max bottom · Finset.univ) ?_
  funext k
  exact congrArg D (lift_row i k)

theorem sums_apply (E : FVec Ideal S1024x32768 .f32) (i : Fin 1024) :
    sums E (ix1 (n := 1024) i) = ∑ k : Fin 32768, E (ix2 (n0 := 1024) (n1 := 32768) i k) := by
  unfold sums
  refine (Ideal.hostReduceAdd_single reducesTo_S1024x32768_S1024_d1 drops E _ _).trans ?_
  refine (congrArg (· + _) Ideal.ofBits_zero_f32).trans ((zero_add _).trans ?_)
  exact Finset.sum_congr rfl fun k _ => congrArg E (lift_row i k)

theorem ups_apply (D : FVec Ideal S1024x32768 .f32) (i : Fin 1024) (j : Fin 32768) :
    ups D (ix2 (n0 := 1024) (n1 := 32768) i j) = up (fun k => D (ix2 (n0 := 1024) (n1 := 32768) i k)) j := by
  have h : ups D (ix2 (n0 := 1024) (n1 := 32768) i j)
      = Ideal.exp (D (ix2 (n0 := 1024) (n1 := 32768) i j) - spread (peaks D) (ix2 (n0 := 1024) (n1 := 32768) i j)) := rfl
  rw [h, spread_apply, peaks_apply]
  rfl

/-- The reference at an index: the softmax of its row of logits. -/
theorem whole_apply (x : FVec Ideal S1024x2048 .bf16) (w : FVec Ideal S2048x32768 .bf16) (i : Fin 1024) (j : Fin 32768) :
    whole x w (ix2 (n0 := 1024) (n1 := 32768) i j) = soft (fun k => logits x w (ix2 (n0 := 1024) (n1 := 32768) i k)) j := by
  unfold whole
  generalize logits x w = D
  refine (Host.divf_apply _ _ _).trans ?_
  rw [spread_apply, sums_apply]
  simp only [ups_apply]
  rfl

/-- A logit is the sum of the products along a row of `x` and a column of `w`. -/
theorem logits_apply (x : FVec Ideal S1024x2048 .bf16) (w : FVec Ideal S2048x32768 .bf16) (i : Fin 1024) (j : Fin 32768) :
    logits x w (ix2 (n0 := 1024) (n1 := 32768) i j)
      = ∑ k : Fin 2048, (x (ix2 (n0 := 1024) (n1 := 2048) i k) * w (ix2 (n0 := 2048) (n1 := 32768) k j) : EReal) :=
  StackMember.dotGeneral_plain_apply (m := 1024) (k := 2048) (n := 32768) none (extf .f32 x bitsLt_bf16_f32) (extf .f32 w bitsLt_bf16_f32) i j

end Cert.ReferenceIdeal.Softmax

end
-- ==== Proof.Value.lean ====
/- Over the extended reals every device's result is the reference's. -/
module

public import proofs.«01_k».proof.Proof.Run
public import proofs.«01_k».proof.Proof.Softmax
public import proofs.«01_k».proof.Proof.Gathered
public import proofs.«01_k».proof.Proof.RefRow

@[expose] public section

noncomputable section

namespace Cert.KernelIdeal.Run

open Idealize.ShloMosaic Idealize.ShloMosaic.TcCoe
open Idealize.SL.Sem
open Cert.KernelIdeal.Gen Cert.Row
open Cert.ReferenceIdeal.Softmax (whole logits whole_apply logits_apply)
open Idealize.ShloMosaic.ValueIdx

variable (m : (ℓ : Loc nD τ sig) → Buf (Elt Ideal) ℓ)
variable (x : Vec Ideal S1024x2048 .bf16) (w : (⟨2, ![2048, 32768]⟩ : Shape).Idx → Elt Ideal .bf16)

theorem o_index (t : Fin cfg1.N) : win1_1.index t 0 = t.val ∧ win1_1.index t 1 = 0 := by revert t; decide

/-- Every device holds the activations `x`, and its block of the weights `w`. -/
def Dealt : Prop := ∀ c : Dev nD, m ((c : Thread nD τ).loc main_arg0) = x
  ∧ m ((c : Thread nD τ).loc main_arg1) = Layout.blockN ⟨2, ![2048, 16384]⟩ ⟨2, ![2048, 32768]⟩ (Layout.meshBlock [2, 2] ![[], [0]] c) w

variable {m x w}

/-- A row of a gathered block is a row of the reference's logits. -/
theorem rowOf_gblk (hd : Dealt m x w) (c : Dev nD) (t : Fin cfg1.N) (r : Fin 64) :
    rowOf (gblk m c t) r = fun k => logits x w (ix2 (n0 := 1024) (n1 := 32768) ⟨64 * t.val + r.val, by have : t.val < 16 := t.isLt; omega⟩ k) := by
  funext k
  unfold rowOf
  refine (gblk_apply m c t _ r _).trans ((G_apply m x w (fun c => (hd c).1) (fun c => (hd c).2) c _ _ _).trans ((logits_apply x w _ k).trans ?_).symm)
  refine Finset.sum_congr rfl fun q _ => congrArg (fun z => (x _ * w (ix2 (n0 := 2048) (n1 := 32768) q z) : EReal)) (Fin.ext ?_)
  show k.val = 16384 * (k.val / 16384) + k.val % 16384
  omega

/-- Every device ends with the reference's result. -/
theorem result_eq (hd : Dealt m x w) (c : Dev nD) : result m c = whole x w := by
  refine (dat1 m c).arrAt_eq_of_covers 1 (whole x w) (by decide +kernel) fun t _ y => ?_
  have hy : y = ix2 (n0 := 64) (n1 := 32768) (y 0) (y 1) := by
    funext a
    match a with | ⟨0, _⟩ => rfl | ⟨1, _⟩ => rfl
  have he : ((cfg1.win 1).blk t).view.emb y
      = ix2 (n0 := 1024) (n1 := 32768) ⟨64 * t.val + (y 0).val, by have : t.val < 16 := t.isLt; have : (y 0).val < 64 := (y 0).isLt; omega⟩ (y 1) := by
    funext a
    match a with
    | ⟨0, _⟩ => exact Fin.ext (by blk_simp; rw [(o_index t).1]; show t.val * 64 + (y 0).val = 64 * t.val + (y 0).val; omega)
    | ⟨1, _⟩ => exact Fin.ext (by blk_simp; rw [(o_index t).2]; show 0 * 32768 + (y 1).val = (y 1).val; omega)
  refine (?_ : sm (gblk m c t) y = whole x w (((cfg1.win 1).blk t).view.emb y))
  rw [he]
  refine (congrArg (sm (gblk m c t)) hy).trans ((sm_apply (gblk m c t) (y 0) (y 1)).trans ?_)
  exact (congrArg (fun f => soft f (y 1)) (rowOf_gblk hd c t (y 0))).trans (whole_apply x w _ _).symm

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Lib.Quiescent
public import Idealize.ShloMosaic.Init

@[expose] public section

noncomputable section

namespace Cert.Proof

open Idealize.ShloMosaic Idealize.SL.Sem

/-- The two printed kernels have the same bodies, -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨l, hl⟩ := l
  match l, hl, a with
  | 0, _, (t, s) => rfl
  | 1, _, (t, s) => rfl
  | n + 2, h, _ => exact absurd h (Nat.not_lt.2 (Nat.le_add_left _ _))
/-- and the same calls. -/
theorem calls_eq : Cert.Kernel.defs (F := Bits) = Cert.KernelIdeal.defs (F := Bits) := by
  unfold Cert.Kernel.defs Cert.KernelIdeal.defs
  exact congrArg (Pipeline.defs _) bodies_eq

/-- The kernel runs at machine floats: its text is the idealized one's, whose run holds at any float values. -/
theorem frame_kernel : Cert.quiescent_Kernel := fun m ρ _ => by
  rw [calls_eq]
  exact (θ_run Cert.KernelIdeal.defs _ _).mono (fun _ h => ⟨fun c => (h.1 c).1, h.2⟩) (Cert.KernelIdeal.Run.run_main (F := Bits) m ρ)

/-- It runs at ideal floats. -/
theorem frame_kernelIdeal : Cert.quiescent_KernelIdeal := fun m ρ _ =>
  (θ_run Cert.KernelIdeal.defs _ _).mono (fun _ h => ⟨fun c => (h.1 c).1, h.2⟩) (Cert.KernelIdeal.Run.run_main (F := Ideal) m ρ)

/-- The reference runs; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device of the kernel ends with the reference's result. -/
theorem equal_results : Cert.algebraic_KernelIdeal_ReferenceIdeal := fun m g m' g' _ h => by
  refine ⟨Cert.ReferenceIdeal.Softmax.whole (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun r hr c => ?_) (Cert.KernelIdeal.Run.run_main (F := Ideal) m g)
    obtain ⟨ha, hv⟩ := hr.1 c
    exact ⟨hv.trans (Cert.KernelIdeal.Run.result_eq h c), ha⟩
  · exact (θ_run Cert.ReferenceIdeal.defs _ _).mono (fun r hr => hr 0) (Cert.ReferenceIdeal.Value.run (F := Ideal) m' g')

theorem claim : Cert.Claim := ⟨Cert.Kernel.Gen.facts, Cert.KernelIdeal.Gen.facts, Cert.ReferenceIdeal.Gen.facts,
  frame_kernel, frame_kernelIdeal, frame_referenceIdeal, trivial, equal_results⟩

end Cert.Proof

end
